-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S7x512x512 : Shape := ⟨3, ![7, 512, 512]⟩
abbrev S2x512x2048 : Shape := ⟨3, ![2, 512, 2048]⟩
abbrev S3x512x4096 : Shape := ⟨3, ![3, 512, 4096]⟩
abbrev S7 : Shape := ⟨1, ![7]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x512x512 : Shape := ⟨3, ![1, 512, 512]⟩
abbrev S512x512 : Shape := ⟨2, ![512, 512]⟩
abbrev S1x512x4096 : Shape := ⟨3, ![1, 512, 4096]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S4096x512, .bf16⟩
  | .local _ .vmem, ⟨2, _⟩ => ⟨S7x512x512, .bf16⟩
  | .local _ .vmem, ⟨3, _⟩ => ⟨S2x512x2048, .f32⟩
  | .local _ .vmem, ⟨4, _⟩ => ⟨S3x512x4096, .bf16⟩
  | .local _ .vmem, ⟨5, _⟩ => ⟨S512x8192, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 2 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let c0_i32_1 : BitVec 32 := 0#32
  let v4 : BitVec 1 := Scalar.cmpi .eq c8_i32_0 c0_i32_1
  let c1_i32_2 : BitVec 32 := 1#32
  let v5 : BitVec 32 := Scalar.select v4 c1_i32_2 c8_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let c0_i32_10 : BitVec 32 := 0#32
  ![v14.toNat, 0]
def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v27 : BitVec 32 := Scalar.addi v2 c1_i32_14
  let c8_i32_15 : BitVec 32 := 8#32
  let c0_i32_16 : BitVec 32 := 0#32
  let v28 : BitVec 1 := Scalar.cmpi .eq c8_i32_15 c0_i32_16
  let c1_i32_17 : BitVec 32 := 1#32
  let v29 : BitVec 32 := Scalar.select v28 c1_i32_17 c8_i32_15
  let v30 : BitVec 32 := Scalar.remsi v27 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c1_i32_22 : BitVec 32 := 1#32
  let v38 : BitVec 32 := Scalar.muli v37 c1_i32_22
  let v39 : BitVec 32 := Scalar.addi c0_i32_23 v38
  v39.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v40 : BitVec 32 := Scalar.addi v2 c2_i32
  let c8_i32_24 : BitVec 32 := 8#32
  let c0_i32_25 : BitVec 32 := 0#32
  let v41 : BitVec 1 := Scalar.cmpi .eq c8_i32_24 c0_i32_25
  let c1_i32_26 : BitVec 32 := 1#32
  let v42 : BitVec 32 := Scalar.select v41 c1_i32_26 c8_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c1_i32_31 : BitVec 32 := 1#32
  let v51 : BitVec 32 := Scalar.muli v50 c1_i32_31
  let v52 : BitVec 32 := Scalar.addi c0_i32_32 v51
  v52.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v53 : BitVec 32 := Scalar.addi v2 c3_i32
  let c8_i32_33 : BitVec 32 := 8#32
  let c0_i32_34 : BitVec 32 := 0#32
  let v54 : BitVec 1 := Scalar.cmpi .eq c8_i32_33 c0_i32_34
  let c1_i32_35 : BitVec 32 := 1#32
  let v55 : BitVec 32 := Scalar.select v54 c1_i32_35 c8_i32_33
  let v56 : BitVec 32 := Scalar.remsi v53 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c1_i32_40 : BitVec 32 := 1#32
  let v64 : BitVec 32 := Scalar.muli v63 c1_i32_40
  let v65 : BitVec 32 := Scalar.addi c0_i32_41 v64
  v65.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v66 : BitVec 32 := Scalar.addi v2 c4_i32
  let c8_i32_42 : BitVec 32 := 8#32
  let c0_i32_43 : BitVec 32 := 0#32
  let v67 : BitVec 1 := Scalar.cmpi .eq c8_i32_42 c0_i32_43
  let c1_i32_44 : BitVec 32 := 1#32
  let v68 : BitVec 32 := Scalar.select v67 c1_i32_44 c8_i32_42
  let v69 : BitVec 32 := Scalar.remsi v66 v68
  let c0_i32_46 : BitVec 32 := 0#32
  let v71 : BitVec 1 := Scalar.cmpi .slt v69 c0_i32_46
  let c0_i32_47 : BitVec 32 := 0#32
  let v72 : BitVec 1 := Scalar.cmpi .slt v68 c0_i32_47
  let v73 : BitVec 1 := Scalar.xori v71 v72
  let c0_i32_45 : BitVec 32 := 0#32
  let v70 : BitVec 1 := Scalar.cmpi .ne v69 c0_i32_45
  let v74 : BitVec 1 := Scalar.andi v73 v70
  let v75 : BitVec 32 := Scalar.addi v69 v68
  let v76 : BitVec 32 := Scalar.select v74 v75 v69
  let c1_i32_49 : BitVec 32 := 1#32
  let v77 : BitVec 32 := Scalar.muli v76 c1_i32_49
  let v78 : BitVec 32 := Scalar.addi c0_i32_50 v77
  v78.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v79 : BitVec 32 := Scalar.addi v2 c5_i32
  let c8_i32_51 : BitVec 32 := 8#32
  let c0_i32_52 : BitVec 32 := 0#32
  let v80 : BitVec 1 := Scalar.cmpi .eq c8_i32_51 c0_i32_52
  let c1_i32_53 : BitVec 32 := 1#32
  let v81 : BitVec 32 := Scalar.select v80 c1_i32_53 c8_i32_51
  let v82 : BitVec 32 := Scalar.remsi v79 v81
  let c0_i32_55 : BitVec 32 := 0#32
  let v84 : BitVec 1 := Scalar.cmpi .slt v82 c0_i32_55
  let c0_i32_56 : BitVec 32 := 0#32
  let v85 : BitVec 1 := Scalar.cmpi .slt v81 c0_i32_56
  let v86 : BitVec 1 := Scalar.xori v84 v85
  let c0_i32_54 : BitVec 32 := 0#32
  let v83 : BitVec 1 := Scalar.cmpi .ne v82 c0_i32_54
  let v87 : BitVec 1 := Scalar.andi v86 v83
  let v88 : BitVec 32 := Scalar.addi v82 v81
  let v89 : BitVec 32 := Scalar.select v87 v88 v82
  let c1_i32_58 : BitVec 32 := 1#32
  let v90 : BitVec 32 := Scalar.muli v89 c1_i32_58
  let v91 : BitVec 32 := Scalar.addi c0_i32_59 v90
  v91.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v92 : BitVec 32 := Scalar.addi v2 c6_i32
  let c8_i32_60 : BitVec 32 := 8#32
  let c0_i32_61 : BitVec 32 := 0#32
  let v93 : BitVec 1 := Scalar.cmpi .eq c8_i32_60 c0_i32_61
  let c1_i32_62 : BitVec 32 := 1#32
  let v94 : BitVec 32 := Scalar.select v93 c1_i32_62 c8_i32_60
  let v95 : BitVec 32 := Scalar.remsi v92 v94
  let c0_i32_64 : BitVec 32 := 0#32
  let v97 : BitVec 1 := Scalar.cmpi .slt v95 c0_i32_64
  let c0_i32_65 : BitVec 32 := 0#32
  let v98 : BitVec 1 := Scalar.cmpi .slt v94 c0_i32_65
  let v99 : BitVec 1 := Scalar.xori v97 v98
  let c0_i32_63 : BitVec 32 := 0#32
  let v96 : BitVec 1 := Scalar.cmpi .ne v95 c0_i32_63
  let v100 : BitVec 1 := Scalar.andi v99 v96
  let v101 : BitVec 32 := Scalar.addi v95 v94
  let v102 : BitVec 32 := Scalar.select v100 v101 v95
  let c1_i32_67 : BitVec 32 := 1#32
  let v103 : BitVec 32 := Scalar.muli v102 c1_i32_67
  let v104 : BitVec 32 := Scalar.addi c0_i32_68 v103
  v104.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v105 : BitVec 32 := Scalar.addi v2 c7_i32
  let c8_i32_69 : BitVec 32 := 8#32
  let c0_i32_70 : BitVec 32 := 0#32
  let v106 : BitVec 1 := Scalar.cmpi .eq c8_i32_69 c0_i32_70
  let c1_i32_71 : BitVec 32 := 1#32
  let v107 : BitVec 32 := Scalar.select v106 c1_i32_71 c8_i32_69
  let v108 : BitVec 32 := Scalar.remsi v105 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  let c1_i32_76 : BitVec 32 := 1#32
  let v116 : BitVec 32 := Scalar.muli v115 c1_i32_76
  let v117 : BitVec 32 := Scalar.addi c0_i32_77 v116
  v117.toNat
def k0_off2 (d0 : Dev nD) (c1_i32_79 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : BitVec 32 := Scalar.addi v2 c1_i32_79
  let c8_i32_80 : BitVec 32 := 8#32
  let c0_i32_81 : BitVec 32 := 0#32
  let v119 : BitVec 1 := Scalar.cmpi .eq c8_i32_80 c0_i32_81
  let c1_i32_82 : BitVec 32 := 1#32
  let v120 : BitVec 32 := Scalar.select v119 c1_i32_82 c8_i32_80
  let v121 : BitVec 32 := Scalar.remsi v118 v120
  let c0_i32_84 : BitVec 32 := 0#32
  let v123 : BitVec 1 := Scalar.cmpi .slt v121 c0_i32_84
  let c0_i32_85 : BitVec 32 := 0#32
  let v124 : BitVec 1 := Scalar.cmpi .slt v120 c0_i32_85
  let v125 : BitVec 1 := Scalar.xori v123 v124
  let c0_i32_83 : BitVec 32 := 0#32
  let v122 : BitVec 1 := Scalar.cmpi .ne v121 c0_i32_83
  let v126 : BitVec 1 := Scalar.andi v125 v122
  let v127 : BitVec 32 := Scalar.addi v121 v120
  let v128 : BitVec 32 := Scalar.select v126 v127 v121
  let c512_i32_86 : BitVec 32 := 512#32
  let v129 : BitVec 32 := Scalar.muli v128 c512_i32_86
  let c0_i32_94 : BitVec 32 := 0#32
  ![v129.toNat, 0]
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let v118 : BitVec 32 := Scalar.addi v2 c1_i32_79
  let c8_i32_80 : BitVec 32 := 8#32
  let c0_i32_81 : BitVec 32 := 0#32
  let v119 : BitVec 1 := Scalar.cmpi .eq c8_i32_80 c0_i32_81
  let c1_i32_82 : BitVec 32 := 1#32
  let v120 : BitVec 32 := Scalar.select v119 c1_i32_82 c8_i32_80
  let v121 : BitVec 32 := Scalar.remsi v118 v120
  let c0_i32_84 : BitVec 32 := 0#32
  let v123 : BitVec 1 := Scalar.cmpi .slt v121 c0_i32_84
  let c0_i32_85 : BitVec 32 := 0#32
  let v124 : BitVec 1 := Scalar.cmpi .slt v120 c0_i32_85
  let v125 : BitVec 1 := Scalar.xori v123 v124
  let c0_i32_83 : BitVec 32 := 0#32
  let v122 : BitVec 1 := Scalar.cmpi .ne v121 c0_i32_83
  let v126 : BitVec 1 := Scalar.andi v125 v122
  let v127 : BitVec 32 := Scalar.addi v121 v120
  let v128 : BitVec 32 := Scalar.select v126 v127 v121
  let c1_i32_90 : BitVec 32 := 1#32
  let v130 : BitVec 32 := Scalar.muli v128 c1_i32_90
  let v131 : BitVec 32 := Scalar.addi c0_i32_91 v130
  v131.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_95 : BitVec 32 := 2#32
  let v139 : BitVec 32 := Scalar.addi v2 c2_i32_95
  let c8_i32_96 : BitVec 32 := 8#32
  let c0_i32_97 : BitVec 32 := 0#32
  let v140 : BitVec 1 := Scalar.cmpi .eq c8_i32_96 c0_i32_97
  let c1_i32_98 : BitVec 32 := 1#32
  let v141 : BitVec 32 := Scalar.select v140 c1_i32_98 c8_i32_96
  let v142 : BitVec 32 := Scalar.remsi v139 v141
  let c0_i32_100 : BitVec 32 := 0#32
  let v144 : BitVec 1 := Scalar.cmpi .slt v142 c0_i32_100
  let c0_i32_101 : BitVec 32 := 0#32
  let v145 : BitVec 1 := Scalar.cmpi .slt v141 c0_i32_101
  let v146 : BitVec 1 := Scalar.xori v144 v145
  let c0_i32_99 : BitVec 32 := 0#32
  let v143 : BitVec 1 := Scalar.cmpi .ne v142 c0_i32_99
  let v147 : BitVec 1 := Scalar.andi v146 v143
  let v148 : BitVec 32 := Scalar.addi v142 v141
  let v149 : BitVec 32 := Scalar.select v147 v148 v142
  let c1_i32_106 : BitVec 32 := 1#32
  let v151 : BitVec 32 := Scalar.muli v149 c1_i32_106
  let v152 : BitVec 32 := Scalar.addi c0_i32_107 v151
  v152.toNat
def k0_dev10 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v160 : BitVec 32 := Scalar.addi v2 c3_i32_111
  let c8_i32_112 : BitVec 32 := 8#32
  let c0_i32_113 : BitVec 32 := 0#32
  let v161 : BitVec 1 := Scalar.cmpi .eq c8_i32_112 c0_i32_113
  let c1_i32_114 : BitVec 32 := 1#32
  let v162 : BitVec 32 := Scalar.select v161 c1_i32_114 c8_i32_112
  let v163 : BitVec 32 := Scalar.remsi v160 v162
  let c0_i32_116 : BitVec 32 := 0#32
  let v165 : BitVec 1 := Scalar.cmpi .slt v163 c0_i32_116
  let c0_i32_117 : BitVec 32 := 0#32
  let v166 : BitVec 1 := Scalar.cmpi .slt v162 c0_i32_117
  let v167 : BitVec 1 := Scalar.xori v165 v166
  let c0_i32_115 : BitVec 32 := 0#32
  let v164 : BitVec 1 := Scalar.cmpi .ne v163 c0_i32_115
  let v168 : BitVec 1 := Scalar.andi v167 v164
  let v169 : BitVec 32 := Scalar.addi v163 v162
  let v170 : BitVec 32 := Scalar.select v168 v169 v163
  let c1_i32_122 : BitVec 32 := 1#32
  let v172 : BitVec 32 := Scalar.muli v170 c1_i32_122
  let v173 : BitVec 32 := Scalar.addi c0_i32_123 v172
  v173.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v181 : BitVec 32 := Scalar.addi v2 c4_i32_127
  let c8_i32_128 : BitVec 32 := 8#32
  let c0_i32_129 : BitVec 32 := 0#32
  let v182 : BitVec 1 := Scalar.cmpi .eq c8_i32_128 c0_i32_129
  let c1_i32_130 : BitVec 32 := 1#32
  let v183 : BitVec 32 := Scalar.select v182 c1_i32_130 c8_i32_128
  let v184 : BitVec 32 := Scalar.remsi v181 v183
  let c0_i32_132 : BitVec 32 := 0#32
  let v186 : BitVec 1 := Scalar.cmpi .slt v184 c0_i32_132
  let c0_i32_133 : BitVec 32 := 0#32
  let v187 : BitVec 1 := Scalar.cmpi .slt v183 c0_i32_133
  let v188 : BitVec 1 := Scalar.xori v186 v187
  let c0_i32_131 : BitVec 32 := 0#32
  let v185 : BitVec 1 := Scalar.cmpi .ne v184 c0_i32_131
  let v189 : BitVec 1 := Scalar.andi v188 v185
  let v190 : BitVec 32 := Scalar.addi v184 v183
  let v191 : BitVec 32 := Scalar.select v189 v190 v184
  let c1_i32_138 : BitVec 32 := 1#32
  let v193 : BitVec 32 := Scalar.muli v191 c1_i32_138
  let v194 : BitVec 32 := Scalar.addi c0_i32_139 v193
  v194.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_143 : BitVec 32 := 5#32
  let v202 : BitVec 32 := Scalar.addi v2 c5_i32_143
  let c8_i32_144 : BitVec 32 := 8#32
  let c0_i32_145 : BitVec 32 := 0#32
  let v203 : BitVec 1 := Scalar.cmpi .eq c8_i32_144 c0_i32_145
  let c1_i32_146 : BitVec 32 := 1#32
  let v204 : BitVec 32 := Scalar.select v203 c1_i32_146 c8_i32_144
  let v205 : BitVec 32 := Scalar.remsi v202 v204
  let c0_i32_148 : BitVec 32 := 0#32
  let v207 : BitVec 1 := Scalar.cmpi .slt v205 c0_i32_148
  let c0_i32_149 : BitVec 32 := 0#32
  let v208 : BitVec 1 := Scalar.cmpi .slt v204 c0_i32_149
  let v209 : BitVec 1 := Scalar.xori v207 v208
  let c0_i32_147 : BitVec 32 := 0#32
  let v206 : BitVec 1 := Scalar.cmpi .ne v205 c0_i32_147
  let v210 : BitVec 1 := Scalar.andi v209 v206
  let v211 : BitVec 32 := Scalar.addi v205 v204
  let v212 : BitVec 32 := Scalar.select v210 v211 v205
  let c1_i32_154 : BitVec 32 := 1#32
  let v214 : BitVec 32 := Scalar.muli v212 c1_i32_154
  let v215 : BitVec 32 := Scalar.addi c0_i32_155 v214
  v215.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_159 : BitVec 32 := 6#32
  let v223 : BitVec 32 := Scalar.addi v2 c6_i32_159
  let c8_i32_160 : BitVec 32 := 8#32
  let c0_i32_161 : BitVec 32 := 0#32
  let v224 : BitVec 1 := Scalar.cmpi .eq c8_i32_160 c0_i32_161
  let c1_i32_162 : BitVec 32 := 1#32
  let v225 : BitVec 32 := Scalar.select v224 c1_i32_162 c8_i32_160
  let v226 : BitVec 32 := Scalar.remsi v223 v225
  let c0_i32_164 : BitVec 32 := 0#32
  let v228 : BitVec 1 := Scalar.cmpi .slt v226 c0_i32_164
  let c0_i32_165 : BitVec 32 := 0#32
  let v229 : BitVec 1 := Scalar.cmpi .slt v225 c0_i32_165
  let v230 : BitVec 1 := Scalar.xori v228 v229
  let c0_i32_163 : BitVec 32 := 0#32
  let v227 : BitVec 1 := Scalar.cmpi .ne v226 c0_i32_163
  let v231 : BitVec 1 := Scalar.andi v230 v227
  let v232 : BitVec 32 := Scalar.addi v226 v225
  let v233 : BitVec 32 := Scalar.select v231 v232 v226
  let c1_i32_170 : BitVec 32 := 1#32
  let v235 : BitVec 32 := Scalar.muli v233 c1_i32_170
  let v236 : BitVec 32 := Scalar.addi c0_i32_171 v235
  v236.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_175 : BitVec 32 := 7#32
  let v244 : BitVec 32 := Scalar.addi v2 c7_i32_175
  let c8_i32_176 : BitVec 32 := 8#32
  let c0_i32_177 : BitVec 32 := 0#32
  let v245 : BitVec 1 := Scalar.cmpi .eq c8_i32_176 c0_i32_177
  let c1_i32_178 : BitVec 32 := 1#32
  let v246 : BitVec 32 := Scalar.select v245 c1_i32_178 c8_i32_176
  let v247 : BitVec 32 := Scalar.remsi v244 v246
  let c0_i32_180 : BitVec 32 := 0#32
  let v249 : BitVec 1 := Scalar.cmpi .slt v247 c0_i32_180
  let c0_i32_181 : BitVec 32 := 0#32
  let v250 : BitVec 1 := Scalar.cmpi .slt v246 c0_i32_181
  let v251 : BitVec 1 := Scalar.xori v249 v250
  let c0_i32_179 : BitVec 32 := 0#32
  let v248 : BitVec 1 := Scalar.cmpi .ne v247 c0_i32_179
  let v252 : BitVec 1 := Scalar.andi v251 v248
  let v253 : BitVec 32 := Scalar.addi v247 v246
  let v254 : BitVec 32 := Scalar.select v252 v253 v247
  let c1_i32_186 : BitVec 32 := 1#32
  let v256 : BitVec 32 := Scalar.muli v254 c1_i32_186
  let v257 : BitVec 32 := Scalar.addi c0_i32_187 v256
  v257.toNat
def k0_off3 (d0 : Dev nD) (c0_i32_191 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v265 : BitVec 32 := Scalar.subi v2 c0_i32_191
  let c8_i32_192 : BitVec 32 := 8#32
  let c0_i32_193 : BitVec 32 := 0#32
  let v266 : BitVec 1 := Scalar.cmpi .eq c8_i32_192 c0_i32_193
  let c1_i32_194 : BitVec 32 := 1#32
  let v267 : BitVec 32 := Scalar.select v266 c1_i32_194 c8_i32_192
  let v268 : BitVec 32 := Scalar.remsi v265 v267
  let c0_i32_196 : BitVec 32 := 0#32
  let v270 : BitVec 1 := Scalar.cmpi .slt v268 c0_i32_196
  let c0_i32_197 : BitVec 32 := 0#32
  let v271 : BitVec 1 := Scalar.cmpi .slt v267 c0_i32_197
  let v272 : BitVec 1 := Scalar.xori v270 v271
  let c0_i32_195 : BitVec 32 := 0#32
  let v269 : BitVec 1 := Scalar.cmpi .ne v268 c0_i32_195
  let v273 : BitVec 1 := Scalar.andi v272 v269
  let v274 : BitVec 32 := Scalar.addi v268 v267
  let v275 : BitVec 32 := Scalar.select v273 v274 v268
  let c512_i32_198 : BitVec 32 := 512#32
  let v276 : BitVec 32 := Scalar.muli v275 c512_i32_198
  let c2048_i32 : BitVec 32 := 2048#32
  ![v276.toNat, 2048]
def k0_off4 (d0 : Dev nD) (c0_i32_215 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v293 : BitVec 32 := Scalar.subi v2 c0_i32_215
  let c8_i32_216 : BitVec 32 := 8#32
  let c0_i32_217 : BitVec 32 := 0#32
  let v294 : BitVec 1 := Scalar.cmpi .eq c8_i32_216 c0_i32_217
  let c1_i32_218 : BitVec 32 := 1#32
  let v295 : BitVec 32 := Scalar.select v294 c1_i32_218 c8_i32_216
  let v296 : BitVec 32 := Scalar.remsi v293 v295
  let c0_i32_220 : BitVec 32 := 0#32
  let v298 : BitVec 1 := Scalar.cmpi .slt v296 c0_i32_220
  let c0_i32_221 : BitVec 32 := 0#32
  let v299 : BitVec 1 := Scalar.cmpi .slt v295 c0_i32_221
  let v300 : BitVec 1 := Scalar.xori v298 v299
  let c0_i32_219 : BitVec 32 := 0#32
  let v297 : BitVec 1 := Scalar.cmpi .ne v296 c0_i32_219
  let v301 : BitVec 1 := Scalar.andi v300 v297
  let v302 : BitVec 32 := Scalar.addi v296 v295
  let v303 : BitVec 32 := Scalar.select v301 v302 v296
  let c512_i32_222 : BitVec 32 := 512#32
  let v304 : BitVec 32 := Scalar.muli v303 c512_i32_222
  let c4096_i32 : BitVec 32 := 4096#32
  ![v304.toNat, 4096]
def k0_off5 (d0 : Dev nD) (c0_i32_237 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v321 : BitVec 32 := Scalar.subi v2 c0_i32_237
  let c8_i32_238 : BitVec 32 := 8#32
  let c0_i32_239 : BitVec 32 := 0#32
  let v322 : BitVec 1 := Scalar.cmpi .eq c8_i32_238 c0_i32_239
  let c1_i32_240 : BitVec 32 := 1#32
  let v323 : BitVec 32 := Scalar.select v322 c1_i32_240 c8_i32_238
  let v324 : BitVec 32 := Scalar.remsi v321 v323
  let c0_i32_242 : BitVec 32 := 0#32
  let v326 : BitVec 1 := Scalar.cmpi .slt v324 c0_i32_242
  let c0_i32_243 : BitVec 32 := 0#32
  let v327 : BitVec 1 := Scalar.cmpi .slt v323 c0_i32_243
  let v328 : BitVec 1 := Scalar.xori v326 v327
  let c0_i32_241 : BitVec 32 := 0#32
  let v325 : BitVec 1 := Scalar.cmpi .ne v324 c0_i32_241
  let v329 : BitVec 1 := Scalar.andi v328 v325
  let v330 : BitVec 32 := Scalar.addi v324 v323
  let v331 : BitVec 32 := Scalar.select v329 v330 v324
  let c512_i32_244 : BitVec 32 := 512#32
  let v332 : BitVec 32 := Scalar.muli v331 c512_i32_244
  let c6144_i32 : BitVec 32 := 6144#32
  ![v332.toNat, 6144]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_299 : BitVec 32 := 512#32
  let v394 : BitVec 32 := Scalar.muli v2 c512_i32_299
  let v395 : Index := Scalar.indexCast v394
  let c0_300 : Index := 0#32
  ![v395.toNat, 0]
def k0_dev15 (d0 : Dev nD) : Nat :=
  let c0_i32_1342_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1333_r0 : BitVec 32 := 1#32
  let v1514_r0 : BitVec 32 := Scalar.addi v2 c1_i32_1333_r0
  let c8_i32_1334_r0 : BitVec 32 := 8#32
  let c0_i32_1335_r0 : BitVec 32 := 0#32
  let v1515_r0 : BitVec 1 := Scalar.cmpi .eq c8_i32_1334_r0 c0_i32_1335_r0
  let c1_i32_1336_r0 : BitVec 32 := 1#32
  let v1516_r0 : BitVec 32 := Scalar.select v1515_r0 c1_i32_1336_r0 c8_i32_1334_r0
  let v1517_r0 : BitVec 32 := Scalar.remsi v1514_r0 v1516_r0
  let c0_i32_1338_r0 : BitVec 32 := 0#32
  let v1519_r0 : BitVec 1 := Scalar.cmpi .slt v1517_r0 c0_i32_1338_r0
  let c0_i32_1339_r0 : BitVec 32 := 0#32
  let v1520_r0 : BitVec 1 := Scalar.cmpi .slt v1516_r0 c0_i32_1339_r0
  let v1521_r0 : BitVec 1 := Scalar.xori v1519_r0 v1520_r0
  let c0_i32_1337_r0 : BitVec 32 := 0#32
  let v1518_r0 : BitVec 1 := Scalar.cmpi .ne v1517_r0 c0_i32_1337_r0
  let v1522_r0 : BitVec 1 := Scalar.andi v1521_r0 v1518_r0
  let v1523_r0 : BitVec 32 := Scalar.addi v1517_r0 v1516_r0
  let v1524_r0 : BitVec 32 := Scalar.select v1522_r0 v1523_r0 v1517_r0
  let c1_i32_1341_r0 : BitVec 32 := 1#32
  let v1525_r0 : BitVec 32 := Scalar.muli v1524_r0 c1_i32_1341_r0
  let v1526_r0 : BitVec 32 := Scalar.addi c0_i32_1342_r0 v1525_r0
  v1526_r0.toNat
def k0_dev16 (d0 : Dev nD) : Nat :=
  let c0_i32_1352_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1343_r0 : BitVec 32 := 2#32
  let v1527_r0 : BitVec 32 := Scalar.addi v2 c2_i32_1343_r0
  let c8_i32_1344_r0 : BitVec 32 := 8#32
  let c0_i32_1345_r0 : BitVec 32 := 0#32
  let v1528_r0 : BitVec 1 := Scalar.cmpi .eq c8_i32_1344_r0 c0_i32_1345_r0
  let c1_i32_1346_r0 : BitVec 32 := 1#32
  let v1529_r0 : BitVec 32 := Scalar.select v1528_r0 c1_i32_1346_r0 c8_i32_1344_r0
  let v1530_r0 : BitVec 32 := Scalar.remsi v1527_r0 v1529_r0
  let c0_i32_1348_r0 : BitVec 32 := 0#32
  let v1532_r0 : BitVec 1 := Scalar.cmpi .slt v1530_r0 c0_i32_1348_r0
  let c0_i32_1349_r0 : BitVec 32 := 0#32
  let v1533_r0 : BitVec 1 := Scalar.cmpi .slt v1529_r0 c0_i32_1349_r0
  let v1534_r0 : BitVec 1 := Scalar.xori v1532_r0 v1533_r0
  let c0_i32_1347_r0 : BitVec 32 := 0#32
  let v1531_r0 : BitVec 1 := Scalar.cmpi .ne v1530_r0 c0_i32_1347_r0
  let v1535_r0 : BitVec 1 := Scalar.andi v1534_r0 v1531_r0
  let v1536_r0 : BitVec 32 := Scalar.addi v1530_r0 v1529_r0
  let v1537_r0 : BitVec 32 := Scalar.select v1535_r0 v1536_r0 v1530_r0
  let c1_i32_1351_r0 : BitVec 32 := 1#32
  let v1538_r0 : BitVec 32 := Scalar.muli v1537_r0 c1_i32_1351_r0
  let v1539_r0 : BitVec 32 := Scalar.addi c0_i32_1352_r0 v1538_r0
  v1539_r0.toNat
def k0_dev17 (d0 : Dev nD) : Nat :=
  let c0_i32_1362_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1353_r0 : BitVec 32 := 3#32
  let v1540_r0 : BitVec 32 := Scalar.addi v2 c3_i32_1353_r0
  let c8_i32_1354_r0 : BitVec 32 := 8#32
  let c0_i32_1355_r0 : BitVec 32 := 0#32
  let v1541_r0 : BitVec 1 := Scalar.cmpi .eq c8_i32_1354_r0 c0_i32_1355_r0
  let c1_i32_1356_r0 : BitVec 32 := 1#32
  let v1542_r0 : BitVec 32 := Scalar.select v1541_r0 c1_i32_1356_r0 c8_i32_1354_r0
  let v1543_r0 : BitVec 32 := Scalar.remsi v1540_r0 v1542_r0
  let c0_i32_1358_r0 : BitVec 32 := 0#32
  let v1545_r0 : BitVec 1 := Scalar.cmpi .slt v1543_r0 c0_i32_1358_r0
  let c0_i32_1359_r0 : BitVec 32 := 0#32
  let v1546_r0 : BitVec 1 := Scalar.cmpi .slt v1542_r0 c0_i32_1359_r0
  let v1547_r0 : BitVec 1 := Scalar.xori v1545_r0 v1546_r0
  let c0_i32_1357_r0 : BitVec 32 := 0#32
  let v1544_r0 : BitVec 1 := Scalar.cmpi .ne v1543_r0 c0_i32_1357_r0
  let v1548_r0 : BitVec 1 := Scalar.andi v1547_r0 v1544_r0
  let v1549_r0 : BitVec 32 := Scalar.addi v1543_r0 v1542_r0
  let v1550_r0 : BitVec 32 := Scalar.select v1548_r0 v1549_r0 v1543_r0
  let c1_i32_1361_r0 : BitVec 32 := 1#32
  let v1551_r0 : BitVec 32 := Scalar.muli v1550_r0 c1_i32_1361_r0
  let v1552_r0 : BitVec 32 := Scalar.addi c0_i32_1362_r0 v1551_r0
  v1552_r0.toNat
def k0_dev18 (d0 : Dev nD) : Nat :=
  let c0_i32_1372_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1363_r0 : BitVec 32 := 4#32
  let v1553_r0 : BitVec 32 := Scalar.addi v2 c4_i32_1363_r0
  let c8_i32_1364_r0 : BitVec 32 := 8#32
  let c0_i32_1365_r0 : BitVec 32 := 0#32
  let v1554_r0 : BitVec 1 := Scalar.cmpi .eq c8_i32_1364_r0 c0_i32_1365_r0
  let c1_i32_1366_r0 : BitVec 32 := 1#32
  let v1555_r0 : BitVec 32 := Scalar.select v1554_r0 c1_i32_1366_r0 c8_i32_1364_r0
  let v1556_r0 : BitVec 32 := Scalar.remsi v1553_r0 v1555_r0
  let c0_i32_1368_r0 : BitVec 32 := 0#32
  let v1558_r0 : BitVec 1 := Scalar.cmpi .slt v1556_r0 c0_i32_1368_r0
  let c0_i32_1369_r0 : BitVec 32 := 0#32
  let v1559_r0 : BitVec 1 := Scalar.cmpi .slt v1555_r0 c0_i32_1369_r0
  let v1560_r0 : BitVec 1 := Scalar.xori v1558_r0 v1559_r0
  let c0_i32_1367_r0 : BitVec 32 := 0#32
  let v1557_r0 : BitVec 1 := Scalar.cmpi .ne v1556_r0 c0_i32_1367_r0
  let v1561_r0 : BitVec 1 := Scalar.andi v1560_r0 v1557_r0
  let v1562_r0 : BitVec 32 := Scalar.addi v1556_r0 v1555_r0
  let v1563_r0 : BitVec 32 := Scalar.select v1561_r0 v1562_r0 v1556_r0
  let c1_i32_1371_r0 : BitVec 32 := 1#32
  let v1564_r0 : BitVec 32 := Scalar.muli v1563_r0 c1_i32_1371_r0
  let v1565_r0 : BitVec 32 := Scalar.addi c0_i32_1372_r0 v1564_r0
  v1565_r0.toNat
def k0_dev19 (d0 : Dev nD) : Nat :=
  let c0_i32_1382_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1373_r0 : BitVec 32 := 5#32
  let v1566_r0 : BitVec 32 := Scalar.addi v2 c5_i32_1373_r0
  let c8_i32_1374_r0 : BitVec 32 := 8#32
  let c0_i32_1375_r0 : BitVec 32 := 0#32
  let v1567_r0 : BitVec 1 := Scalar.cmpi .eq c8_i32_1374_r0 c0_i32_1375_r0
  let c1_i32_1376_r0 : BitVec 32 := 1#32
  let v1568_r0 : BitVec 32 := Scalar.select v1567_r0 c1_i32_1376_r0 c8_i32_1374_r0
  let v1569_r0 : BitVec 32 := Scalar.remsi v1566_r0 v1568_r0
  let c0_i32_1378_r0 : BitVec 32 := 0#32
  let v1571_r0 : BitVec 1 := Scalar.cmpi .slt v1569_r0 c0_i32_1378_r0
  let c0_i32_1379_r0 : BitVec 32 := 0#32
  let v1572_r0 : BitVec 1 := Scalar.cmpi .slt v1568_r0 c0_i32_1379_r0
  let v1573_r0 : BitVec 1 := Scalar.xori v1571_r0 v1572_r0
  let c0_i32_1377_r0 : BitVec 32 := 0#32
  let v1570_r0 : BitVec 1 := Scalar.cmpi .ne v1569_r0 c0_i32_1377_r0
  let v1574_r0 : BitVec 1 := Scalar.andi v1573_r0 v1570_r0
  let v1575_r0 : BitVec 32 := Scalar.addi v1569_r0 v1568_r0
  let v1576_r0 : BitVec 32 := Scalar.select v1574_r0 v1575_r0 v1569_r0
  let c1_i32_1381_r0 : BitVec 32 := 1#32
  let v1577_r0 : BitVec 32 := Scalar.muli v1576_r0 c1_i32_1381_r0
  let v1578_r0 : BitVec 32 := Scalar.addi c0_i32_1382_r0 v1577_r0
  v1578_r0.toNat
def k0_dev20 (d0 : Dev nD) : Nat :=
  let c0_i32_1392_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1383_r0 : BitVec 32 := 6#32
  let v1579_r0 : BitVec 32 := Scalar.addi v2 c6_i32_1383_r0
  let c8_i32_1384_r0 : BitVec 32 := 8#32
  let c0_i32_1385_r0 : BitVec 32 := 0#32
  let v1580_r0 : BitVec 1 := Scalar.cmpi .eq c8_i32_1384_r0 c0_i32_1385_r0
  let c1_i32_1386_r0 : BitVec 32 := 1#32
  let v1581_r0 : BitVec 32 := Scalar.select v1580_r0 c1_i32_1386_r0 c8_i32_1384_r0
  let v1582_r0 : BitVec 32 := Scalar.remsi v1579_r0 v1581_r0
  let c0_i32_1388_r0 : BitVec 32 := 0#32
  let v1584_r0 : BitVec 1 := Scalar.cmpi .slt v1582_r0 c0_i32_1388_r0
  let c0_i32_1389_r0 : BitVec 32 := 0#32
  let v1585_r0 : BitVec 1 := Scalar.cmpi .slt v1581_r0 c0_i32_1389_r0
  let v1586_r0 : BitVec 1 := Scalar.xori v1584_r0 v1585_r0
  let c0_i32_1387_r0 : BitVec 32 := 0#32
  let v1583_r0 : BitVec 1 := Scalar.cmpi .ne v1582_r0 c0_i32_1387_r0
  let v1587_r0 : BitVec 1 := Scalar.andi v1586_r0 v1583_r0
  let v1588_r0 : BitVec 32 := Scalar.addi v1582_r0 v1581_r0
  let v1589_r0 : BitVec 32 := Scalar.select v1587_r0 v1588_r0 v1582_r0
  let c1_i32_1391_r0 : BitVec 32 := 1#32
  let v1590_r0 : BitVec 32 := Scalar.muli v1589_r0 c1_i32_1391_r0
  let v1591_r0 : BitVec 32 := Scalar.addi c0_i32_1392_r0 v1590_r0
  v1591_r0.toNat
def k0_dev21 (d0 : Dev nD) : Nat :=
  let c0_i32_1402_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1393_r0 : BitVec 32 := 7#32
  let v1592_r0 : BitVec 32 := Scalar.addi v2 c7_i32_1393_r0
  let c8_i32_1394_r0 : BitVec 32 := 8#32
  let c0_i32_1395_r0 : BitVec 32 := 0#32
  let v1593_r0 : BitVec 1 := Scalar.cmpi .eq c8_i32_1394_r0 c0_i32_1395_r0
  let c1_i32_1396_r0 : BitVec 32 := 1#32
  let v1594_r0 : BitVec 32 := Scalar.select v1593_r0 c1_i32_1396_r0 c8_i32_1394_r0
  let v1595_r0 : BitVec 32 := Scalar.remsi v1592_r0 v1594_r0
  let c0_i32_1398_r0 : BitVec 32 := 0#32
  let v1597_r0 : BitVec 1 := Scalar.cmpi .slt v1595_r0 c0_i32_1398_r0
  let c0_i32_1399_r0 : BitVec 32 := 0#32
  let v1598_r0 : BitVec 1 := Scalar.cmpi .slt v1594_r0 c0_i32_1399_r0
  let v1599_r0 : BitVec 1 := Scalar.xori v1597_r0 v1598_r0
  let c0_i32_1397_r0 : BitVec 32 := 0#32
  let v1596_r0 : BitVec 1 := Scalar.cmpi .ne v1595_r0 c0_i32_1397_r0
  let v1600_r0 : BitVec 1 := Scalar.andi v1599_r0 v1596_r0
  let v1601_r0 : BitVec 32 := Scalar.addi v1595_r0 v1594_r0
  let v1602_r0 : BitVec 32 := Scalar.select v1600_r0 v1601_r0 v1595_r0
  let c1_i32_1401_r0 : BitVec 32 := 1#32
  let v1603_r0 : BitVec 32 := Scalar.muli v1602_r0 c1_i32_1401_r0
  let v1604_r0 : BitVec 32 := Scalar.addi c0_i32_1402_r0 v1603_r0
  v1604_r0.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points
public import proofs.«01_k».proof.Proof.Gen.KernelIdeal.Launch

/-!
# The kernel's body as loops

The printed body is the unrolled text of a few loops. Here the loops are written down as functions of
their counters (`u` a unit: a quarter of one weight block, `t` a multiplication, `q` one of the seven
peers), and `body_eq` states that the printed body is what they unroll to.
-/

@[expose] public section

set_option synthInstance.maxSize 4096

noncomputable section

namespace Cert.KernelIdeal.Gemm

open Idealize.ShloMosaic Idealize.ShloMosaic.TcCoe Idealize.SL.Sem
open Cert.KernelIdeal.Gen

variable {F : FTy → Type} [FloatOps F]

/-- A program of one core. -/
abbrev P (F : FTy → Type) [FloatOps F] (α : Type) : Type 1 := Prog (TpuEff nD τ sig (Elt F) Λ₀ .tc) α

/-! ## The buffers -/

/-- The staged block of the activations. -/
abbrev xIn : Memref sig .tc .vmem S4096x512 .f32 := Memref.whole cc0_stg0_0
/-- The weights. -/
abbrev wIn : Memref sig .tc .hbm S4096x8192 .f32 := Memref.whole main_arg1
/-- The result. -/
abbrev out : Memref sig .tc .hbm S512x8192 .f32 := Memref.whole main_v1
/-- The activations narrowed. -/
abbrev xb : Memref sig .tc .vmem S4096x512 .bf16 := Memref.whole cc0_scratch0
/-- The seven landing slots. -/
abbrev rx : Memref sig .tc .vmem S7x512x512 .bf16 := Memref.whole cc0_scratch1
/-- The two weight staging slots. -/
abbrev ws : Memref sig .tc .vmem S2x512x2048 .f32 := Memref.whole cc0_scratch2
/-- The three narrowed weight slots. -/
abbrev wb : Memref sig .tc .vmem S3x512x4096 .bf16 := Memref.whole cc0_scratch3
/-- The accumulator. -/
abbrev acc : Memref sig .tc .vmem S512x8192 .f32 := Memref.whole cc0_scratch4

/-! ## Offsets and rectangles -/

theorem lt2 (n : ℕ) : n % 2 < 2 := Nat.mod_lt _ (by decide)
theorem lt3 (n : ℕ) : n % 3 < 3 := Nat.mod_lt _ (by decide)
theorem lt8 (n : ℕ) : n % 8 < 8 := Nat.mod_lt _ (by decide)

theorem ws_inb (u : ℕ) : ∀ a, (![u % 2, 0, 0] : Fin 3 → ℕ) a + S1x512x2048.size a ≤ S2x512x2048.size a :=
  (by decide : ∀ h : Fin 2, ∀ a, (![h.val, 0, 0] : Fin 3 → ℕ) a + S1x512x2048.size a ≤ S2x512x2048.size a) ⟨u % 2, lt2 u⟩
theorem wsem_inb (u : ℕ) : ∀ a, (![u % 2] : Fin 1 → ℕ) a + S1.size a ≤ S2.size a :=
  (by decide : ∀ h : Fin 2, ∀ a, (![h.val] : Fin 1 → ℕ) a + S1.size a ≤ S2.size a) ⟨u % 2, lt2 u⟩
theorem wbU_inb (u : ℕ) : ∀ a, (![(u / 2) % 3, 0, u % 2 * 2048] : Fin 3 → ℕ) a + S1x512x2048.size a ≤ S3x512x4096.size a :=
  (by decide : ∀ (k : Fin 3) (h : Fin 2), ∀ a, (![k.val, 0, h.val * 2048] : Fin 3 → ℕ) a + S1x512x2048.size a ≤ S3x512x4096.size a)
    ⟨u / 2 % 3, lt3 _⟩ ⟨u % 2, lt2 u⟩
theorem wbU_packed (u : ℕ) : (Rect.unit (s := S3x512x4096) ![(u / 2) % 3, 0, u % 2 * 2048] S1x512x2048.size (wbU_inb u)).PackedRows (EltTy.packing .bf16) :=
  (by decide : ∀ (k : Fin 3) (h : Fin 2), (Rect.unit (s := S3x512x4096) ![k.val, 0, h.val * 2048] S1x512x2048.size
      ((by decide : ∀ (k : Fin 3) (h : Fin 2), ∀ a, (![k.val, 0, h.val * 2048] : Fin 3 → ℕ) a + S1x512x2048.size a ≤ S3x512x4096.size a) k h)).PackedRows (EltTy.packing .bf16))
    ⟨u / 2 % 3, lt3 _⟩ ⟨u % 2, lt2 u⟩
theorem wb_inb (t : ℕ) : ∀ a, (![t % 3, 0, 0] : Fin 3 → ℕ) a + S1x512x4096.size a ≤ S3x512x4096.size a :=
  (by decide : ∀ (k : Fin 3), ∀ a, (![k.val, 0, 0] : Fin 3 → ℕ) a + S1x512x4096.size a ≤ S3x512x4096.size a) ⟨t % 3, lt3 _⟩
theorem acc_inb (t : ℕ) : ∀ a, (![0, t % 2 * 4096] : Fin 2 → ℕ) a + S512x4096.size a ≤ S512x8192.size a :=
  (by decide : ∀ (k : Fin 2), ∀ a, (![0, k.val * 4096] : Fin 2 → ℕ) a + S512x4096.size a ≤ S512x8192.size a) ⟨t % 2, lt2 _⟩
theorem rx_inb (q : Fin 7) : ∀ a, (![q.val, 0, 0] : Fin 3 → ℕ) a + S1x512x512.size a ≤ S7x512x512.size a := by
  revert q; decide
theorem rx_words (q : Fin 7) : (Rect.unit (s := S7x512x512) ![q.val, 0, 0] S1x512x512.size (rx_inb q)).WholeWords (EltTy.packing .bf16) := by
  revert q; decide
theorem rsem_inb (q : Fin 7) : ∀ a, (![q.val] : Fin 1 → ℕ) a + S1.size a ≤ S7.size a := by
  revert q; decide

/-- Where unit `u` of device `d` begins in the weights. -/
def wOff (d : Dev nD) (u : ℕ) : Fin 2 → ℕ :=
  if u / 2 % 2 = 0 then (if u % 2 = 0 then k0_off1 d (BitVec.ofNat 32 (u / 4 % 8)) else k0_off3 d (BitVec.ofNat 32 (u / 4 % 8)))
  else (if u % 2 = 0 then k0_off4 d (BitVec.ofNat 32 (u / 4 % 8)) else k0_off5 d (BitVec.ofNat 32 (u / 4 % 8)))
theorem wOff_inb (d : Dev nD) (u : ℕ) : ∀ a, wOff d u a + S512x2048.size a ≤ S4096x8192.size a := by
  unfold wOff
  split <;> split
  · exact k0_off1_inb d ⟨u / 4 % 8, lt8 _⟩
  · exact k0_off3_inb d ⟨u / 4 % 8, lt8 _⟩
  · exact k0_off4_inb d ⟨u / 4 % 8, lt8 _⟩
  · exact k0_off5_inb d ⟨u / 4 % 8, lt8 _⟩

/-- The peers the barrier, the transfers and the exit barrier address, as the kernel computes them. -/
def devB (d : Dev nD) (q : Fin 7) : ℕ :=
  ![k0_dev1 d, k0_dev2 d, k0_dev3 d, k0_dev4 d, k0_dev5 d, k0_dev6 d, k0_dev7 d] q
def devS (d : Dev nD) (q : Fin 7) : ℕ :=
  ![k0_dev8 d, k0_dev9 d, k0_dev10 d, k0_dev11 d, k0_dev12 d, k0_dev13 d, k0_dev14 d] q
def devE (d : Dev nD) (q : Fin 7) : ℕ :=
  ![k0_dev15 d, k0_dev16 d, k0_dev17 d, k0_dev18 d, k0_dev19 d, k0_dev20 d, k0_dev21 d] q
theorem devB_lt (d : Dev nD) (q : Fin 7) : devB d q < nD := by revert d q; decide +kernel
theorem devS_lt (d : Dev nD) (q : Fin 7) : devS d q < nD := by revert d q; decide +kernel
theorem devE_lt (d : Dev nD) (q : Fin 7) : devE d q < nD := by revert d q; decide +kernel

/-! ## Slices -/

/-- Unit `u` of the weights. -/
abbrev wSrc (d : Dev nD) (u : ℕ) : Memref sig .tc .hbm S512x2048 .f32 :=
  wIn.slice (Rect.unit (s := S4096x8192) (wOff d u) S512x2048.size (wOff_inb d u)) (fun _ => rfl)
/-- The view a wait for a unit names: only its size counts. -/
abbrev wSrc0 : Memref sig .tc .hbm S512x2048 .f32 :=
  wIn.slice (Rect.unit (s := S4096x8192) ![0, 0] S512x2048.size inb_S4096x8192_S512x2048_0_0) (fun _ => rfl)
/-- The staging slot of unit `u`. -/
abbrev wsSlot (u : ℕ) : Memref sig .tc .vmem S512x2048 .f32 :=
  (ws.slice (Rect.unit (s := S2x512x2048) ![u % 2, 0, 0] S1x512x2048.size (ws_inb u)) (fun _ => rfl)).squeeze S512x2048 squeezes_S1x512x2048_S512x2048
/-- The semaphore of that slot. -/
abbrev wSem (u : ℕ) : DmaSem sig :=
  ((cc0_scratch7.slice (Rect.unit (s := S2) ![u % 2] S1.size (wsem_inb u))).squeeze S_ squeezes_S1_S_).sem
abbrev wsRect (u : ℕ) : Rect S2x512x2048 := Rect.unit (s := S2x512x2048) ![u % 2, 0, 0] S1x512x2048.size (ws_inb u)
abbrev wbRectU (u : ℕ) : Rect S3x512x4096 := Rect.unit (s := S3x512x4096) ![(u / 2) % 3, 0, u % 2 * 2048] S1x512x2048.size (wbU_inb u)
abbrev wbRect (t : ℕ) : Rect S3x512x4096 := Rect.unit (s := S3x512x4096) ![t % 3, 0, 0] S1x512x4096.size (wb_inb t)
abbrev accRect (t : ℕ) : Rect S512x8192 := Rect.unit (s := S512x8192) ![0, t % 2 * 4096] S512x4096.size (acc_inb t)
abbrev rxRect (q : Fin 7) : Rect S7x512x512 := Rect.unit (s := S7x512x512) ![q.val, 0, 0] S1x512x512.size (rx_inb q)
abbrev rxSlot (q : Fin 7) : Memref sig .tc .vmem S512x512 .bf16 :=
  (rx.slice (rxRect q) (fun _ => rfl)).squeeze S512x512 squeezes_S1x512x512_S512x512
abbrev sendSem (q : Fin 7) : DmaSem sig :=
  ((cc0_scratch5.slice (Rect.unit (s := S7) ![q.val] S1.size (rsem_inb q))).squeeze S_ squeezes_S1_S_).sem
abbrev recvSem (q : Fin 7) : DmaSem sig :=
  ((cc0_scratch6.slice (Rect.unit (s := S7) ![q.val] S1.size (rsem_inb q))).squeeze S_ squeezes_S1_S_).sem
abbrev outSem (t : ℕ) : DmaSem sig :=
  ((cc0_scratch8.slice (Rect.unit (s := S2) ![t % 2] S1.size (wsem_inb t))).squeeze S_ squeezes_S1_S_).sem
/-- The rows of the narrowed activations bound for peer `q`. -/
abbrev xbRows (d : Dev nD) (q : Fin 7) : Memref sig .tc .vmem S512x512 .bf16 :=
  xb.slice (Rect.unit (s := S4096x512) (k0_off2 d (BitVec.ofNat 32 (1 + q.val))) S512x512.size (k0_off2_inb d q)) (fun _ => rfl)
abbrev xbRows0 : Memref sig .tc .vmem S512x512 .bf16 :=
  xb.slice (Rect.unit (s := S4096x512) ![0, 0] S512x512.size inb_S4096x512_S512x512_0_0) (fun _ => rfl)
abbrev outCols (t : ℕ) : Memref sig .tc .hbm S512x4096 .f32 := out.slice (accRect t) (fun _ => rfl)
abbrev accCols (t : ℕ) : Memref sig .tc .vmem S512x4096 .f32 := acc.slice (accRect t) (fun _ => rfl)
abbrev barSem : Sem sig := (SemArray.scalar (sig.barrier 0 rfl) : Sems sig S_).sem
abbrev exitSem : Sem sig := cc0_scoped0.sem

/-! ## The steps -/

/-- Start fetching unit `u`. -/
def startU (d : Dev nD) (u : ℕ) : P F PUnit :=
  Prog.lift (.enqueueDma (wSrc d u) (.here (wsSlot u)) (.dma (wSem u)) (View.wordExact_bits rfl) ((View.wordExact_bits rfl).reshape _ _) ⟨Or.inl rfl, trivial⟩)
/-- Wait for unit `u` and narrow it into its slot. -/
def convU (u : ℕ) : P F PUnit := do
  Prog.lift (.waitDma2 (wSem u) wSrc0 (wsSlot u) (View.wordExact_bits rfl) ((View.wordExact_bits rfl).reshape _ _))
  let v : Vec F S1x512x2048 .f32 ← Prog.lift (.load ws (wsRect u).toLoadRect (View.loadsAt_vmem h_S1x512x2048))
  let _v : Vec F S1x512x2048 .bf16 ← Prog.lift (.load wb (wbRectU u).toLoadRect (View.loadsAt_vmem h_S1x512x2048))
  Prog.lift (.store wb (wbRectU u) (k0_pay4 v) Finset.univ (View.stores_vmem h_S1x512x2048 ((Memref.isWhole_whole _).storeExact_slice rfl _ (wbU_packed u)) (fun _ => rfl)) (.inl rfl))
/-- Narrow unit `u`, and start the unit two on. -/
def pumpU (d : Dev nD) (u : ℕ) : P F PUnit := do
  convU u
  if u + 2 < 32 then startU d (u + 2) else pure ⟨⟩
/-- Narrow the activations. -/
def narrowX : P F PUnit := do
  let v : Vec F S4096x512 .f32 ← Prog.lift (.load xIn (Rect.unit (s := S4096x512) ![0, 0] S4096x512.size inb_S4096x512_S4096x512_0_0).toLoadRect (View.loadsAt_vmem h_S4096x512))
  let _v : Vec F S4096x512 .bf16 ← Prog.lift (.load xb (Rect.unit (s := S4096x512) ![0, 0] S4096x512.size inb_S4096x512_S4096x512_0_0).toLoadRect (View.loadsAt_vmem h_S4096x512))
  Prog.lift (.store xb (Rect.unit (s := S4096x512) ![0, 0] S4096x512.size inb_S4096x512_S4096x512_0_0) (k0_pay1 v) Finset.univ (View.stores_vmem h_S4096x512 ((Memref.isWhole_whole _).storeExact_slice rfl _ packedbf16_S4096x512_S4096x512_0_0) (fun _ => rfl)) (.inl rfl))
/-- Tell peer `q` this device has begun. -/
def signalB (d : Dev nD) (q : Fin 7) : P F PUnit := semSignalWord (⟨devB d q, devB_lt d q⟩ : Dev nD) barSem 1#32
/-- Send peer `q` its rows. -/
def sendQ (d : Dev nD) (q : Fin 7) : P F PUnit :=
  Prog.lift (.enqueueDma (xbRows d q) (.remote (Dev.tc (⟨devS d q, devS_lt d q⟩ : Dev nD)) (rxSlot q) (.dma (sendSem q))) (.dma (recvSem q))
    ((Memref.isWhole_whole _).wordExact_slice rfl _ (k0_off2_wordsbf16 d q)) (((Memref.isWhole_whole _).wordExact_slice rfl _ (rx_words q)).reshape _ _) ⟨⟨rfl, Or.inl rfl⟩, trivial⟩)
/-- Wait for the rows landing in slot `q`. -/
def recvQ (q : Fin 7) : P F PUnit :=
  Prog.lift (.waitDma2 (recvSem q) xbRows0 (rxSlot q) ((Memref.isWhole_whole _).wordExact_slice rfl _ wordsbf16_S4096x512_S512x512_0_0) (((Memref.isWhole_whole _).wordExact_slice rfl _ (rx_words q)).reshape _ _))
/-- Wait for this device's transfer `q` to have left. -/
def sentQ (d : Dev nD) (q : Fin 7) : P F PUnit :=
  Prog.lift (.waitDma2 (sendSem q) (rxSlot q) (xbRows d q) (((Memref.isWhole_whole _).wordExact_slice rfl _ (rx_words q)).reshape _ _) ((Memref.isWhole_whole _).wordExact_slice rfl _ (k0_off2_wordsbf16 d q)))
/-- Tell peer `q` this device is done. -/
def signalE (d : Dev nD) (q : Fin 7) : P F PUnit := semSignalWord (⟨devE d q, devE_lt d q⟩ : Dev nD) exitSem 1#32
/-- Store a half of the accumulator. -/
def storeAcc (t : ℕ) (v : FVec F S512x4096 .f32) : P F PUnit :=
  Prog.lift (.store acc (accRect t) v Finset.univ (View.stores_vmem_bits_univ h_S512x4096 rfl) (.inl rfl))
/-- Read a half of the accumulator. -/
def loadAcc (t : ℕ) : P F (Vec F S512x4096 .f32) :=
  Prog.lift (.load acc (accRect t).toLoadRect (View.loadsAt_vmem h_S512x4096))
def loadWb (t : ℕ) : P F (Vec F S1x512x4096 .bf16) :=
  Prog.lift (.load wb (wbRect t).toLoadRect (View.loadsAt_vmem h_S1x512x4096))
/-- The multiplication with the device's own rows: it begins a half of the accumulator. -/
def dotOwn (d : Dev nD) (t : ℕ) : P F PUnit := do
  let a : Vec F S512x512 .bf16 ← Prog.lift (.load xb (Rect.unit (s := S4096x512) (k0_off6 d) S512x512.size (k0_off6_inb d)).toLoadRect (View.loadsAt_vmem h_S512x512))
  let w ← loadWb t
  let _v ← loadAcc t
  storeAcc t (k0_pay7 a w)
/-- The multiplication with the rows in slot `q`: it adds to a half of the accumulator. -/
def dotRx (q : Fin 7) (t : ℕ) : P F PUnit := do
  let a : Vec F S1x512x512 .bf16 ← Prog.lift (.load rx (rxRect q).toLoadRect (View.loadsAt_vmem h_S1x512x512))
  let w ← loadWb t
  let v ← loadAcc t
  let _v ← loadAcc t
  storeAcc t (k0_pay14 a w v)
/-- The activation function over a half of the accumulator, and the half's way out begun. -/
def finish (t : ℕ) : P F PUnit := do
  let y ← loadAcc t
  let _v ← loadAcc t
  storeAcc t (k0_pay59 y (k0_pay58 y) (Scalar.ofBits .f32 0x3D372713#32))
  Prog.lift (.enqueueDma (accCols t) (.here (outCols t)) (.dma (outSem t)) (View.wordExact_bits rfl) (View.wordExact_bits rfl) ⟨Or.inl rfl, trivial⟩)
/-- Wait for a half to be out. -/
def outWait (t : ℕ) : P F PUnit :=
  Prog.lift (.waitDma2 (outSem t) (accCols t) (outCols t) (View.wordExact_bits rfl) (View.wordExact_bits rfl))
/-- Refill the narrowed weights after multiplication `t`. -/
def refill (d : Dev nD) (t : ℕ) : P F PUnit := do
  pumpU d (2 * t + 4)
  pumpU d (2 * t + 5)
/-- A loop over the seven peers. -/
def peers (f : Fin 7 → P F PUnit) : P F PUnit := do
  f 0; f 1; f 2; f 3; f 4; f 5; f 6
/-- What is done once the rows in slot `q` are awaited: two multiplications and their refills. -/
def round (d : Dev nD) (q : Fin 7) : P F PUnit := do
  recvQ q
  dotRx q (2 * (q.val + 1))
  refill d (2 * (q.val + 1))
  dotRx q (2 * (q.val + 1) + 1)
  refill d (2 * (q.val + 1) + 1)
/-- The body. -/
def body : P F PUnit := do
  let d : Dev nD ← Prog.lift .deviceId
  startU d 0
  narrowX
  peers (signalB d)
  semWaitWord barSem 7#32
  peers (sendQ d)
  startU d 1
  pumpU d 0; pumpU d 1; pumpU d 2; pumpU d 3
  dotOwn d 0; refill d 0
  dotOwn d 1; refill d 1
  round d 0; round d 1; round d 2; round d 3; round d 4; round d 5
  recvQ 6
  dotRx 6 14; finish 0
  dotRx 6 15; finish 1
  outWait 0; outWait 1
  peers (sentQ d)
  peers (signalE d)
  semWaitWord exitSem 7#32

set_option maxRecDepth 65536 in
set_option maxHeartbeats 4000000 in
/-- The printed body is the loops unrolled. -/
theorem body_eq : bodyAt0 (F := F) t0_0 = body := by
  chain_rfl

end Cert.KernelIdeal.Gemm

end
-- ==== Proof.Vals.lean ====
module

public import proofs.«01_k».proof.Proof.Prog
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

/-!
# The peers, and what every buffer holds

`x c` is device `c`'s block of the activations and `w c` its weights. The contents the run leaves in each
buffer are functions of the two: which rows travel, which quarter of the weights a unit is, what the
accumulator holds after each multiplication.
-/

@[expose] public section

set_option synthInstance.maxSize 4096

noncomputable section

namespace Cert.KernelIdeal.Gemm

open Idealize.ShloMosaic Idealize.ShloMosaic.TcCoe Idealize.SL.Sem
open Cert.KernelIdeal.Gen
open Idealize.ShloMosaic.ValueIdx (ix2 ix3)

variable {F : FTy → Type} [FloatOps F]

/-! ## The peers -/

set_option backward.proofsInPublic true in
/-- The device `q + 1` further on; -/
def pr (c : Dev nD) (q : Fin 7) : Dev nD := ⟨(c.val + q.val + 1) % 8, Nat.mod_lt _ (by decide)⟩
set_option backward.proofsInPublic true in
/-- the device `q + 1` back; -/
def pl (c : Dev nD) (q : Fin 7) : Dev nD := ⟨(c.val + 7 - q.val) % 8, Nat.mod_lt _ (by decide)⟩
/-- and the peer number by which the device `q + 1` further on knows this one. -/
def rv (q : Fin 7) : Fin 7 := q.rev

theorem pl_pr (c : Dev nD) (q : Fin 7) : pl (pr c q) q = c := by revert c q; decide
theorem pr_pl (c : Dev nD) (q : Fin 7) : pr (pl c q) q = c := by revert c q; decide
theorem pr_rv (c : Dev nD) (q : Fin 7) : pr (pr c q) (rv q) = c := by revert c q; decide
theorem rv_rv (q : Fin 7) : rv (rv q) = q := by revert q; decide
theorem pr_rv_eq_pl (c : Dev nD) (q : Fin 7) : pr c (rv q) = pl c q := by revert c q; decide

theorem devB_eq (d : Dev nD) (q : Fin 7) : (⟨devB d q, devB_lt d q⟩ : Dev nD) = pr d q :=
  Fin.ext ((by decide +kernel : ∀ (d : Dev nD) (q : Fin 7), devB d q = (pr d q).val) d q)
theorem devS_eq (d : Dev nD) (q : Fin 7) : (⟨devS d q, devS_lt d q⟩ : Dev nD) = pr d q :=
  Fin.ext ((by decide +kernel : ∀ (d : Dev nD) (q : Fin 7), devS d q = (pr d q).val) d q)
theorem devE_eq (d : Dev nD) (q : Fin 7) : (⟨devE d q, devE_lt d q⟩ : Dev nD) = pr d q :=
  Fin.ext ((by decide +kernel : ∀ (d : Dev nD) (q : Fin 7), devE d q = (pr d q).val) d q)

/-! ## Blocks of the narrowed activations -/

theorem blk_inb (k : Dev nD) : ∀ a, (![512 * k.val, 0] : Fin 2 → ℕ) a + S512x512.size a ≤ S4096x512.size a := by
  revert k; decide
abbrev xbRect (k : Dev nD) : Rect S4096x512 := Rect.unit (s := S4096x512) ![512 * k.val, 0] S512x512.size (blk_inb k)
/-- The rows of the narrowed activations that are device `k`'s. -/
abbrev xbBlk (k : Dev nD) : Memref sig .tc .vmem S512x512 .bf16 := xb.slice (xbRect k) (fun _ => rfl)

theorem off2_eq (d : Dev nD) (q : Fin 7) : k0_off2 d (BitVec.ofNat 32 (1 + q.val)) = ![512 * (pr d q).val, 0] := by
  revert d q; decide +kernel

theorem unit_congr {s : Shape} {off off' size : Fin s.rank → ℕ} (h : off = off') (p : ∀ a, off a + size a ≤ s.size a)
    (p' : ∀ a, off' a + size a ≤ s.size a) : Rect.unit (s := s) off size p = Rect.unit (s := s) off' size p' := by
  subst h; rfl

theorem xbRows_eq (d : Dev nD) (q : Fin 7) : xbRows d q = xbBlk (pr d q) := by
  have h : ∀ (off off' : Fin 2 → ℕ) (p p'), off = off' →
      (xb.slice (Rect.unit (s := S4096x512) off S512x512.size p) (fun _ => rfl) : Memref sig .tc .vmem S512x512 .bf16)
        = xb.slice (Rect.unit (s := S4096x512) off' S512x512.size p') (fun _ => rfl) := by
    intro off off' p p' e; subst e; rfl
  exact h _ _ _ _ (off2_eq d q)

/-! ## Slots repeat -/

theorem wsSlot_add_two (u : ℕ) : wsSlot (u + 2) = wsSlot u := by
  have h : ∀ (a b : ℕ) (p p'), a = b →
      ((ws.slice (Rect.unit (s := S2x512x2048) ![a, 0, 0] S1x512x2048.size p) (fun _ => rfl)).squeeze S512x2048 squeezes_S1x512x2048_S512x2048 : Memref sig .tc .vmem S512x2048 .f32)
        = (ws.slice (Rect.unit (s := S2x512x2048) ![b, 0, 0] S1x512x2048.size p') (fun _ => rfl)).squeeze S512x2048 squeezes_S1x512x2048_S512x2048 := by
    intro a b p p' e; subst e; rfl
  exact h _ _ _ _ (by omega)
theorem wSem_add_two (u : ℕ) : wSem (u + 2) = wSem u := by
  have h : ∀ (a b : ℕ) (p p'), a = b →
      ((cc0_scratch7.slice (Rect.unit (s := S2) ![a] S1.size p)).squeeze S_ squeezes_S1_S_).sem
        = ((cc0_scratch7.slice (Rect.unit (s := S2) ![b] S1.size p')).squeeze S_ squeezes_S1_S_).sem := by
    intro a b p p' e; subst e; rfl
  exact h _ _ _ _ (by omega)
theorem accCols_congr (t t' : ℕ) (e : t % 2 = t' % 2) : accCols t = accCols t' := by
  have h : ∀ (a b : ℕ) (p p'), a = b →
      (acc.slice (Rect.unit (s := S512x8192) ![0, a * 4096] S512x4096.size p) (fun _ => rfl) : Memref sig .tc .vmem S512x4096 .f32)
        = acc.slice (Rect.unit (s := S512x8192) ![0, b * 4096] S512x4096.size p') (fun _ => rfl) := by
    intro a b p p' e; subst e; rfl
  exact h _ _ _ _ e

/-- The device's own rows, as the kernel computes where they begin. -/
abbrev xbOwn (d : Dev nD) : Memref sig .tc .vmem S512x512 .bf16 :=
  xb.slice (Rect.unit (s := S4096x512) (k0_off6 d) S512x512.size (k0_off6_inb d)) (fun _ => rfl)
theorem off6_eq (d : Dev nD) : k0_off6 d = ![512 * d.val, 0] := by revert d; decide +kernel
theorem xbOwn_eq (d : Dev nD) : xbOwn d = xbBlk d := by
  have h : ∀ (off off' : Fin 2 → ℕ) (p p'), off = off' →
      (xb.slice (Rect.unit (s := S4096x512) off S512x512.size p) (fun _ => rfl) : Memref sig .tc .vmem S512x512 .bf16)
        = xb.slice (Rect.unit (s := S4096x512) off' S512x512.size p') (fun _ => rfl) := by
    intro off off' p p' e; subst e; rfl
  exact h _ _ _ _ (off6_eq d)

/-! ## Contents -/

variable (x : Dev nD → Vec F S4096x512 .f32) (w : Dev nD → Vec F S4096x8192 .f32)

theorem shapeCasts_S512x512_S1x512x512 : S512x512.ShapeCasts S1x512x512 := by decide
/-- The activations narrowed. -/
def xbv (c : Dev nD) : Vec F S4096x512 .bf16 := k0_pay1 (x c)
/-- Device `c`'s rows bound for device `k`. -/
def xrow (c k : Dev nD) : Vec F S512x512 .bf16 := fun i => xbv x c ((xbRect k).emb i)
/-- The same rows as a landing slot holds them. -/
def rxv (c k : Dev nD) : Vec F S1x512x512 .bf16 := shapeCast S1x512x512 (xrow x c k) shapeCasts_S512x512_S1x512x512
/-- Unit `u` of the weights. -/
def wV (c : Dev nD) (u : ℕ) : Vec F S512x2048 .f32 :=
  fun i => w c ((Rect.unit (s := S4096x8192) (wOff c u) S512x2048.size (wOff_inb c u)).emb i)
/-- Unit `u` narrowed. -/
def wConv (c : Dev nD) (u : ℕ) : Vec F S1x512x2048 .bf16 :=
  k0_pay4 (shapeCast S1x512x2048 (wV w c u) shapeCasts_S512x2048_S1x512x2048)
/-- Two units side by side. -/
def beside (a b : Vec F S1x512x2048 .bf16) : Vec F S1x512x4096 .bf16 := fun j =>
  if h : (j 2).val < 2048 then a (ix3 (j 0) (j 1) (⟨(j 2).val, h⟩ : Fin 2048))
  else b (ix3 (j 0) (j 1) (⟨(j 2).val - 2048, by have : (j 2).val < 4096 := (j 2).isLt; omega⟩ : Fin 2048))
/-- The weights of multiplication `t`. -/
def wT (c : Dev nD) (t : ℕ) : Vec F S1x512x4096 .bf16 := beside (wConv w c (2 * t)) (wConv w c (2 * t + 1))
/-- The peer number whose rows multiplication `t` takes. -/
def qOf (t : ℕ) : Fin 7 := ⟨(t / 2 - 1) % 7, Nat.mod_lt _ (by decide)⟩
/-- The half of the accumulator multiplication `t` leaves. -/
def accV (c : Dev nD) : ℕ → Vec F S512x4096 .f32
  | 0 => k0_pay7 (xrow x c c) (wT w c 0)
  | 1 => k0_pay7 (xrow x c c) (wT w c 1)
  | t + 2 => k0_pay14 (rxv x (pl c (qOf (t + 2))) c) (wT w c (t + 2)) (accV c t)
/-- The activation function's value on half `t` of the finished accumulator. -/
def fin (c : Dev nD) (t : ℕ) : Vec F S512x4096 .f32 :=
  k0_pay59 (accV x w c (14 + t)) (k0_pay58 (accV x w c (14 + t))) (Scalar.ofBits .f32 0x3D372713#32)
/-- The result. -/
def outV (c : Dev nD) : Vec F S512x8192 .f32 := fun j =>
  if h : (j 1).val < 4096 then fin x w c 0 (ix2 (j 0) (⟨(j 1).val, h⟩ : Fin 4096))
  else fin x w c 1 (ix2 (j 0) (⟨(j 1).val - 4096, by have : (j 1).val < 8192 := (j 1).isLt; omega⟩ : Fin 4096))

end Cert.KernelIdeal.Gemm

end
-- ==== Proof.Proto.lean ====
module

public import proofs.«01_k».proof.Proof.Vals
public import Mathlib.Tactic.Abel

/-!
# The protocol between the devices

Four kinds of semaphores carry it. A device's barrier counts one signal from each of the seven others, each
handing over the landing slot the receiver will send into. A receive semaphore counts the rows landing in its
slot, a send semaphore the same rows having left. The exit barrier counts one signal from each of the others.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## The resources -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB (MT nD τ sig Unit (Elt F) ℕ UU ℕ)).LandsIn (upEmb : UEmb _ (MT nD τ sig Unit (Elt F) ℕ UU ℕ)) := by
  unfold ER; infer_instance
abbrev EC : UEmb Counters (MT nD τ sig Unit (Elt F) ℕ UU ℕ) := countersEmb

abbrev 𝒱₀ : Variants := Variants.none

/-! ## The cells -/

abbrev barCell (c : Dev nD) : GSem nD τ sig := ((c : Thread nD τ), .reg barSem)
abbrev exitCell (c : Dev nD) : GSem nD τ sig := ((c : Thread nD τ), .reg exitSem)
abbrev sendCell (c : Dev nD) (q : Fin 7) : GSem nD τ sig := ((c : Thread nD τ), .dma (sendSem q))
abbrev recvCell (c : Dev nD) (q : Fin 7) : GSem nD τ sig := ((c : Thread nD τ), .dma (recvSem q))

/-- What a semaphore is for. -/
inductive Role | bar | exit | send (q : Fin 7) | recv (q : Fin 7) | other
  deriving DecidableEq

/-- The role of each semaphore. -/
def role : SemLoc sig → Role
  | .reg s => if s = barSem then .bar else .exit
  | .dma s => if h : 1 ≤ s.val ∧ s.val < 8 then .send ⟨s.val - 1, by omega⟩
      else if h : 8 ≤ s.val ∧ s.val < 15 then .recv ⟨s.val - 8, by omega⟩ else .other

theorem role_bar : role (.reg barSem) = .bar := by decide
theorem role_exit : role (.reg exitSem) = .exit := by decide
theorem role_send (q : Fin 7) : role (.dma (sendSem q)) = .send q := by revert q; decide
theorem role_recv (q : Fin 7) : role (.dma (recvSem q)) = .recv q := by revert q; decide
theorem role_w (u : ℕ) : role (.dma (wSem u)) = .other :=
  (by decide : ∀ h : Fin 2, role (.dma ((cc0_scratch7.slice (Rect.unit (s := S2) ![h.val] S1.size
    ((by decide : ∀ h : Fin 2, ∀ a, (![h.val] : Fin 1 → ℕ) a + S1.size a ≤ S2.size a) h))).squeeze S_ squeezes_S1_S_).sem) = .other) ⟨u % 2, lt2 u⟩
theorem role_out (u : ℕ) : role (.dma (outSem u)) = .other :=
  (by decide : ∀ h : Fin 2, role (.dma ((cc0_scratch8.slice (Rect.unit (s := S2) ![h.val] S1.size
    ((by decide : ∀ h : Fin 2, ∀ a, (![h.val] : Fin 1 → ℕ) a + S1.size a ≤ S2.size a) h))).squeeze S_ squeezes_S1_S_).sem) = .other) ⟨u % 2, lt2 u⟩

/-- The credit of one block of rows. -/
abbrev N : ℕ := (rxSlot 0).view.dmaCredit
theorem N_pos : 0 < N := View.dmaCredit_pos _ (by decide)
theorem N_eq (q : Fin 7) : (rxSlot q).view.dmaCredit = N := rfl

/-! ## The schedule -/

variable (x : Dev nD → Vec F S4096x512 .f32)

/-- What the signal from peer `e` hands device `c`: the slot `e` of that peer. -/
def barPay (c : Dev nD) (e : Fin 7) : sProp 𝕄 :=
  iprop((∃ X : Vec F S512x512 .bf16, owns (pr c e : Thread nD τ) (rxSlot e) fullShare X) ∗ reached ER (recvCell (pr c e) e) 0)
def recvPay (d : Dev nD) (q : Fin 7) : sProp 𝕄 := owns (d : Thread nD τ) (rxSlot q) fullShare (xrow x (pl d q) d)
def sendPay (c : Dev nD) (q : Fin 7) : sProp 𝕄 := owns (c : Thread nD τ) (xbRows c q) fullShare (xrow x c (pr c q))

def dutiesOf : Role → Finset (Fin 7)
  | .bar => Finset.univ | .exit => Finset.univ | .send _ => {0} | .recv _ => {0} | .other => ∅
def amountOf : Role → ℕ
  | .bar => 1 | .exit => 1 | .send _ => N | .recv _ => N | .other => 1
def payOf (c : Dev nD) (e : Fin 7) : Role → sProp 𝕄
  | .bar => barPay c e | .exit => iprop(emp) | .send q => sendPay x c q | .recv q => recvPay x c q | .other => iprop(emp)
theorem amountOf_pos (r : Role) : 0 < amountOf r := by
  cases r <;> first | exact Nat.one_pos | exact N_pos

/-- One round on every semaphore of the protocol. -/
def Rd : Rounds.Schedule (GSem nD τ sig) (Fin 7) 𝕄 where
  duties g r := if r = 0 ∧ g.1.2 = .tc then dutiesOf (role g.2) else ∅
  unitless _ := False
  amount g _ _ := amountOf (role g.2)
  payload g _ d := payOf x g.1.1 d (role g.2)
  amount_pos g _ _ _ := amountOf_pos _

instance Rd_payload_storable (g : GSem nD τ sig) (r : ℕ) (d : Fin 7) :
    BI.Storable (upEmb : UEmb _ 𝕄) ((Rd x).payload g r d) := by
  show BI.Storable upEmb (payOf x g.1.1 d (role g.2))
  cases role g.2 <;> unfold payOf <;> (try unfold barPay recvPay sendPay) <;> infer_instance

section Sched
variable (c : Dev nD) (q : Fin 7)

theorem duties_bar : (Rd x).duties (barCell c) 0 = Finset.univ := by dsimp only [Rd]; rw [if_pos ⟨rfl, rfl⟩, role_bar]; rfl
theorem duties_exit : (Rd x).duties (exitCell c) 0 = Finset.univ := by dsimp only [Rd]; rw [if_pos ⟨rfl, rfl⟩, role_exit]; rfl
theorem duties_send : (Rd x).duties (sendCell c q) 0 = {0} := by dsimp only [Rd]; rw [if_pos ⟨rfl, rfl⟩, role_send]; rfl
theorem duties_recv : (Rd x).duties (recvCell c q) 0 = {0} := by dsimp only [Rd]; rw [if_pos ⟨rfl, rfl⟩, role_recv]; rfl
theorem duties_later (g : GSem nD τ sig) : ∀ r, 1 ≤ r → (Rd x).duties g r = ∅ :=
  fun r hr => by dsimp only [Rd]; rw [if_neg fun h => by omega]

theorem amount_bar (e : Fin 7) : (Rd x).amount (barCell c) 0 e = 1 := by dsimp only [Rd]; rw [role_bar]; rfl
theorem amount_exit (e : Fin 7) : (Rd x).amount (exitCell c) 0 e = 1 := by dsimp only [Rd]; rw [role_exit]; rfl
theorem amount_send (e : Fin 7) : (Rd x).amount (sendCell c q) 0 e = N := by dsimp only [Rd]; rw [role_send]; rfl
theorem amount_recv (e : Fin 7) : (Rd x).amount (recvCell c q) 0 e = N := by dsimp only [Rd]; rw [role_recv]; rfl

theorem payload_bar (e : Fin 7) : (Rd x).payload (barCell c) 0 e = barPay c e := by dsimp only [Rd]; rw [role_bar]; rfl
theorem payload_exit (e : Fin 7) : (Rd x).payload (exitCell c) 0 e = iprop(emp) := by dsimp only [Rd]; rw [role_exit]; rfl
theorem payload_send (e : Fin 7) : (Rd x).payload (sendCell c q) 0 e = sendPay x c q := by dsimp only [Rd]; rw [role_send]; rfl
theorem payload_recv (e : Fin 7) : (Rd x).payload (recvCell c q) 0 e = recvPay x c q := by dsimp only [Rd]; rw [role_recv]; rfl

theorem expect_bar : (Rd x).expect (barCell c) 0 = 7 := by
  unfold Schedule.expect Schedule.amountOf
  rw [duties_bar, Finset.sum_congr rfl fun d _ => amount_bar x c d]; rfl
theorem expect_exit : (Rd x).expect (exitCell c) 0 = 7 := by
  unfold Schedule.expect Schedule.amountOf
  rw [duties_exit, Finset.sum_congr rfl fun d _ => amount_exit x c d]; rfl
theorem expect_send : (Rd x).expect (sendCell c q) 0 = N := by
  unfold Schedule.expect Schedule.amountOf; rw [duties_send, Finset.sum_singleton, amount_send]
theorem expect_recv : (Rd x).expect (recvCell c q) 0 = N := by
  unfold Schedule.expect Schedule.amountOf; rw [duties_recv, Finset.sum_singleton, amount_recv]

theorem rest_bar : bigSep ((Rd x).duties (barCell c) 0 \ ∅) (fun d => (Rd x).payload (barCell c) 0 d)
    = bigSep Finset.univ fun e : Fin 7 => (barPay c e : sProp 𝕄) := by
  rw [Finset.sdiff_empty, duties_bar]; exact bigSep_congr fun e _ => payload_bar x c e
theorem rest_send : bigSep ((Rd x).duties (sendCell c q) 0 \ ∅) (fun d => (Rd x).payload (sendCell c q) 0 d) = sendPay x c q := by
  rw [Finset.sdiff_empty, duties_send, bigSep_singleton, payload_send]
theorem rest_recv : bigSep ((Rd x).duties (recvCell c q) 0 \ ∅) (fun d => (Rd x).payload (recvCell c q) 0 d) = recvPay x c q := by
  rw [Finset.sdiff_empty, duties_recv, bigSep_singleton, payload_recv]

end Sched

/-! ## What each device owes, and the levels -/

def L (g : GSem nD τ sig) : Finset Unit := if g.1.2 = .tc then {()} else ∅
def lvOf : Role → ℕ
  | .bar => 1 | .recv _ => 2 | .exit => 3 | .send _ => 0 | .other => 0
/-- Barriers lie below the landings, and those below the exit barriers; all else lies below the three. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- The peers numbered from `n` on. -/
def from' (n : ℕ) : Finset (Fin 7) := Finset.univ.filter fun q => n ≤ q.val
theorem from_zero : from' 0 = Finset.univ := by decide
theorem from_seven : from' 7 = ∅ := by decide
theorem from_succ (q : Fin 7) : from' q.val = insert q (from' (q.val + 1)) := by revert q; decide
theorem not_mem_from_succ (q : Fin 7) : q ∉ from' (q.val + 1) := by revert q; decide

/-- What device `c` owes with the barrier signals from `nb` on, the transfers from `nr` on and the exit signals from
    `ne` on still to come. -/
def owe (c : Dev nD) (nb nr ne : ℕ) : CellTallies nD τ sig Unit :=
  (∑ q ∈ from' nb, tallyAt (barCell (pr c q)) () 1) + (∑ q ∈ from' nr, tallyAt (recvCell (pr c q) q) () N)
    + ∑ q ∈ from' ne, tallyAt (exitCell (pr c q)) () 1

theorem owe_bar (c : Dev nD) (q : Fin 7) (nr ne : ℕ) :
    owe c q.val nr ne = owe c (q.val + 1) nr ne + tallyAt (barCell (pr c q)) () 1 := by
  unfold owe; rw [from_succ q, Finset.sum_insert (not_mem_from_succ q)]; abel
theorem owe_recv (c : Dev nD) (q : Fin 7) (nb ne : ℕ) :
    owe c nb q.val ne = owe c nb (q.val + 1) ne + tallyAt (recvCell (pr c q) q) () N := by
  unfold owe; rw [from_succ q, Finset.sum_insert (not_mem_from_succ q)]; abel
theorem owe_exit (c : Dev nD) (q : Fin 7) (nb nr : ℕ) :
    owe c nb nr q.val = owe c nb nr (q.val + 1) + tallyAt (exitCell (pr c q)) () 1 := by
  unfold owe; rw [from_succ q, Finset.sum_insert (not_mem_from_succ q)]; abel
theorem owe_done (c : Dev nD) : owe c 7 7 7 = 0 := by
  unfold owe; rw [from_seven]; simp only [Finset.sum_empty, add_zero]

/-- A sum of debts at a cell is where one of the summands is. -/
theorem sum_pos {S : Finset (Fin 7)} {f : Fin 7 → GSem nD τ sig} {k : ℕ} {g : GSem nD τ sig} {u : Unit}
    (h : 0 < (∑ q ∈ S, (tallyAt (f q) () k : CellTallies nD τ sig Unit)) g u) : ∃ q ∈ S, g = f q := by
  by_contra hn
  push Not at hn
  rw [Finset.sum_apply, Finsupp.finset_sum_apply, Finset.sum_eq_zero fun q hq => ?_] at h
  · exact Nat.lt_irrefl 0 h
  · rw [tallyAt_apply, if_neg fun h' => hn q hq h'.1]

theorem owe_pos {c : Dev nD} {nb nr ne : ℕ} {g : GSem nD τ sig} {u : Unit} (h : 0 < owe c nb nr ne g u) :
    (∃ q ∈ from' nb, g = barCell (pr c q)) ∨ (∃ q ∈ from' nr, g = recvCell (pr c q) q) ∨ ∃ q ∈ from' ne, g = exitCell (pr c q) := by
  unfold owe at h
  rw [Pi.add_apply, Finsupp.add_apply, Pi.add_apply, Finsupp.add_apply] at h
  by_contra hn
  rw [not_or, not_or] at hn
  obtain ⟨h1, h2, h3⟩ := hn
  rcases Nat.eq_zero_or_pos ((∑ q ∈ from' nb, (tallyAt (barCell (pr c q)) () 1 : CellTallies nD τ sig Unit)) g u) with e1 | e1
  · rcases Nat.eq_zero_or_pos ((∑ q ∈ from' nr, (tallyAt (recvCell (pr c q) q) () N : CellTallies nD τ sig Unit)) g u) with e2 | e2
    · rw [e1, e2, zero_add, zero_add] at h
      exact h3 (sum_pos h)
    · exact h2 (sum_pos e2)
  · exact h1 (sum_pos e1)

/-- A wait on a cell below everything still owed may be made. -/
theorem mayWait_of (c : Dev nD) (sm : SemLoc sig) (nb nr ne : ℕ)
    (hb : from' nb = ∅ ∨ lvOf (role sm) < 1) (hr : from' nr = ∅ ∨ lvOf (role sm) < 2) (he : from' ne = ∅ ∨ lvOf (role sm) < 3) :
    (levAts L lv : sProp 𝕄) ⊢ MayWait (c : Thread nD τ) sm () (owe c nb nr ne) :=
  MayOwe.of_cut (L := L) (lev := lv) (lvOf (role sm))
    (fun p hp => by rw [Finset.mem_singleton.mp hp, L_tc]; exact Finset.mem_singleton_self _)
    (fun g u hg => by
      rcases owe_pos hg with ⟨q, _, rfl⟩ | ⟨q, _, rfl⟩ | ⟨q, _, rfl⟩ <;> exact Finset.mem_singleton_self _)
    (fun p hp => by rw [Finset.mem_singleton.mp hp]; exact le_refl _)
    (fun g u hg => by
      rcases owe_pos hg with ⟨q, hq, rfl⟩ | ⟨q, hq, rfl⟩ | ⟨q, hq, rfl⟩
      · show _ < lvOf (role (.reg barSem)); rw [role_bar]
        rcases hb with h | h
        · rw [h] at hq; exact absurd hq (Finset.notMem_empty _)
        · exact h
      · show _ < lvOf (role (.dma (recvSem q))); rw [role_recv]
        rcases hr with h | h
        · rw [h] at hq; exact absurd hq (Finset.notMem_empty _)
        · exact h
      · show _ < lvOf (role (.reg exitSem)); rw [role_exit]
        rcases he with h | h
        · rw [h] at hq; exact absurd hq (Finset.notMem_empty _)
        · exact h)

theorem mayWait_bar (c : Dev nD) : (levAts L lv : sProp 𝕄) ⊢ MayWait (c : Thread nD τ) (.reg barSem) () (owe c 7 0 0) :=
  mayWait_of c _ 7 0 0 (.inl from_seven) (.inr (by rw [role_bar]; decide)) (.inr (by rw [role_bar]; decide))
theorem mayWait_recv (c : Dev nD) (q : Fin 7) : (levAts L lv : sProp 𝕄) ⊢ MayWait (c : Thread nD τ) (.dma (recvSem q)) () (owe c 7 7 0) :=
  mayWait_of c _ 7 7 0 (.inl from_seven) (.inl from_seven) (.inr (by rw [role_recv]; exact (by decide : (2 : ℕ) < 3)))
theorem mayWait_send (c : Dev nD) (q : Fin 7) : (levAts L lv : sProp 𝕄) ⊢ MayWait (c : Thread nD τ) (.dma (sendSem q)) () (owe c 7 7 0) :=
  mayWait_of c _ 7 7 0 (.inl from_seven) (.inl from_seven) (.inr (by rw [role_send]; exact (by decide : (0 : ℕ) < 3)))
theorem mayWait_exit (c : Dev nD) : (levAts L lv : sProp 𝕄) ⊢ MayWait (c : Thread nD τ) (.reg exitSem) () (owe c 7 7 7) :=
  mayWait_of c _ 7 7 7 (.inl from_seven) (.inl from_seven) (.inl from_seven)
theorem mayWait_local (c : Dev nD) (sm : SemLoc sig) (h : role sm = .other) (nb nr ne : ℕ) :
    (levAts L lv : sProp 𝕄) ⊢ MayWait (c : Thread nD τ) sm () (owe c nb nr ne) :=
  mayWait_of c _ nb nr ne (.inr (by rw [h]; decide)) (.inr (by rw [h]; decide)) (.inr (by rw [h]; decide))

end Cert.KernelIdeal.Gemm

end
-- ==== Proof.Steps.lean ====
module

public import proofs.«01_k».proof.Proof.Proto
public import Idealize.ShloMosaic.Lib.ViewIndex

/-!
# Steps of the body

What each step of the body needs and leaves, the local ones: the loads and stores of a slice held whole, and
the weights' way from memory through a staging slot into a narrowed slot.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

/-- Device `c` runs `p` to `Q`. -/
abbrev run (c : Dev nD) {α : Type} (p : P F α) (Q : α → sProp 𝕄) : sProp 𝕄 :=
  wp frame (wpE (defs₀ (F := F)) 𝒱₀ (c : Thread nD τ) none) Set.univ p Q

section Generic
variable {c : Dev nD} {α β : Type}

/-- A step with a known effect, and what follows it. -/
theorem run_step {A B : sProp 𝕄} {p : P F PUnit} {k : PUnit → P F β} {Q : β → sProp 𝕄}
    (h : A ⊢ run c p fun _ => B) : A ⊢ iprop((B -∗ run c (k ⟨⟩) Q) -∗ run c (p >>= k) Q) := by
  iintro HA Hk
  unfold run
  rw [wp_bind]
  iapply (wp_wand frame (wpE (defs₀ (F := F)) 𝒱₀ (c : Thread nD τ) none) Set.univ (Q := fun _ => B)) $$ [HA]
  · iapply h; iexact HA
  iintro %a HB
  cases a
  iapply Hk; iexact HB

/-- A step with a known effect at the end. -/
theorem run_last {A B : sProp 𝕄} {p : P F PUnit} {Q : PUnit → sProp 𝕄}
    (h : A ⊢ run c p fun _ => B) : A ⊢ iprop((B -∗ Q ⟨⟩) -∗ run c p Q) := by
  iintro HA Hk
  unfold run
  iapply (wp_wand frame (wpE (defs₀ (F := F)) 𝒱₀ (c : Thread nD τ) none) Set.univ (Q := fun _ => B)) $$ [HA]
  · iapply h; iexact HA
  iintro %a HB
  cases a
  iapply Hk; iexact HB

/-- A load through a slice held whole. -/
theorem load_owns {s : Shape} {e : EltTy} (m : Memref sig .tc .vmem s e) (r : Rect s) (hr : ∀ a, r.stride a = 1) {hl : m.view.LoadsAt r.toLoadRect}
    {k : (r.toLoadRect.shape.Idx → Elt F e) → P F β} {Q : β → sProp 𝕄} (q : PosShare TreeShare) (X : r.shape.Idx → Elt F e) :
    owns (c : Thread nD τ) (m.slice r hr) q X
      ⊢ iprop((owns (c : Thread nD τ) (m.slice r hr) q X -∗ run c (k X) Q) -∗ run c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  have e : (m.access r).read (Elt F) f = X := hf
  rw [e]
  iapply Hk
  iexists f; isplitr
  · ipureintro; exact hf
  · iexact H

/-- A store through a slice held whole. -/
theorem store_owns {s : Shape} {e : EltTy} (m : Memref sig .tc .vmem s e) (r : Rect s) (hr : ∀ a, r.stride a = 1) {v : r.shape.Idx → Elt F e}
    {hx : (m.access r).Stores Finset.univ} {hm : (Finset.univ : Finset r.shape.Idx) = Finset.univ ∨ ∀ a, r.stride a = 1}
    {k : PUnit → P F β} {Q : β → sProp 𝕄} (X : r.shape.Idx → Elt F e) :
    owns (c : Thread nD τ) (m.slice r hr) fullShare X
      ⊢ iprop((owns (c : Thread nD τ) (m.slice r hr) fullShare v -∗ run c (k ⟨⟩) Q) -∗ run c (.op (.store m r v Finset.univ hx hm) k) Q) := by
  unfold owns
  iintro ⟨%f, %hf, H⟩ Hk
  iapply (wp_store 𝒱₀ (c : Thread nD τ) none Set.univ (m := m) (r := r) (Mk := Finset.univ) (S := (m.access r).set) (Finset.Subset.refl _)) $$ H
  iintro H
  iapply Hk
  iexists (m.access r).write (Elt F) f v Finset.univ; isplitr
  · ipureintro; exact View.read_write_univ _ _
  · iexact H

/-- A slice held under another shape of it. -/
theorem owns_squeeze {cs : Space} {s s' : Shape} {e : EltTy} (M : Memref sig .tc cs s e) (h : s.Squeezes s') (hc : s'.ShapeCasts s)
    (q : PosShare TreeShare) (X : s'.Idx → Elt F e) :
    (owns (c : Thread nD τ) (M.squeeze s' h) q X : sProp 𝕄) ⊢ owns (c : Thread nD τ) M q (shapeCast s X hc) := by
  unfold owns
  iintro ⟨%f, %hf, H⟩
  iexists f; isplitr
  · ipureintro
    subst hf
    funext j
    show _ = M.view.read (Elt F) f (Shape.reshapeEquiv h.numel_eq (Shape.reshapeEquiv hc j))
    rw [Shape.reshapeEquiv_reshapeEquiv, Shape.reshapeEquiv_self]
  · have hS : (M.squeeze s' h).view.set = M.view.set := View.set_reshape (v := M.view) h.numel_eq
    rw [← hS]; iexact H

theorem owns_unsqueeze {cs : Space} {s s' : Shape} {e : EltTy} (M : Memref sig .tc cs s e) (h : s.Squeezes s') (hc : s'.ShapeCasts s)
    (q : PosShare TreeShare) (X : s'.Idx → Elt F e) :
    (owns (c : Thread nD τ) M q (shapeCast s X hc) : sProp 𝕄) ⊢ owns (c : Thread nD τ) (M.squeeze s' h) q X := by
  unfold owns
  iintro ⟨%f, %hf, H⟩
  iexists f; isplitr
  · ipureintro
    funext j
    show M.view.read (Elt F) f (Shape.reshapeEquiv h.numel_eq j) = X j
    rw [hf]
    show X (Shape.reshapeEquiv hc (Shape.reshapeEquiv h.numel_eq j)) = X j
    rw [Shape.reshapeEquiv_reshapeEquiv, Shape.reshapeEquiv_self]
  · have hS : (M.squeeze s' h).view.set = M.view.set := View.set_reshape (v := M.view) h.numel_eq
    rw [hS]; iexact H

end Generic

/-! ## Debts, with the waits made forgotten -/

/-- Device `c` owes `O`. -/
def ow (c : Dev nD) (O : CellTallies nD τ sig Unit) : sProp 𝕄 := iprop(∃ W, owes (c : Thread nD τ) O W)

variable (x : Dev nD → Vec F S4096x512 .f32) (w : Dev nD → Vec F S4096x8192 .f32)

/-! ## The weights -/

/-- The share of the weights unit `u`'s transfers read at. -/
def qh (u : ℕ) : PosShare TreeShare := if u % 2 = 0 then fullShare.left else fullShare.right
theorem qh_add_two (u : ℕ) : qh (u + 2) = qh u := by unfold qh; rw [show (u + 2) % 2 = u % 2 by omega]

/-- Unit `u`'s staging slot at rest. -/
def idle (c : Dev nD) (u : ℕ) : sProp 𝕄 :=
  iprop((((c : Thread nD τ).loc main_arg1) ↦{qh u} (w c : Buf (Elt F) ((c : Thread nD τ).loc main_arg1)))
    ∗ (∃ X : Vec F S512x2048 .f32, owns (c : Thread nD τ) (wsSlot u) fullShare X) ∗ semVal ((c : Thread nD τ), .dma (wSem u)) 0)

/-- The credit of one unit. -/
abbrev NW (u : ℕ) : ℕ := (wsSlot u).view.dmaCredit

/-- Unit `u` on its way into its staging slot. -/
def flying (c : Dev nD) (u : ℕ) : sProp 𝕄 :=
  iprop(Transfers.Flight EC (c : Thread nD τ) (.dma (wSem u)) () (NW u)
      iprop(owns (c : Thread nD τ) (wsSlot u) fullShare (wV w c u)
        ∗ ((wSrc c u).view.loc (c : Thread nD τ) ↦[(wSrc c u).view.set]{qh u} (w c : Buf (Elt F) ((wSrc c u).view.loc (c : Thread nD τ)))))
    ∗ ((wSrc c u).view.loc (c : Thread nD τ) ↦[Finset.univ \ (wSrc c u).view.set]{qh u} (w c : Buf (Elt F) ((wSrc c u).view.loc (c : Thread nD τ)))))

theorem idle_add_two (c : Dev nD) (u : ℕ) : (idle w c (u + 2) : sProp 𝕄) = idle w c u := by
  unfold idle; rw [wsSlot_add_two, wSem_add_two, qh_add_two]

/-- Starting a unit's transfer. -/
theorem startU_spec (c : Dev nD) (u : ℕ) : (idle w c u : sProp 𝕄) ⊢ run c (startU c u) fun _ => flying w c u := by
  unfold idle startU run
  iintro ⟨Hw, ⟨%X, HX⟩, Hv⟩
  simp only [Prog.lift]
  unfold owns
  icases HX with ⟨%fd, %hfd, Hd⟩
  ihave Hs := (show (((c : Thread nD τ).loc main_arg1) ↦{qh u} (w c : Buf (Elt F) ((c : Thread nD τ).loc main_arg1)) : sProp 𝕄)
      ⊢ iprop(((wSrc c u).view.loc (c : Thread nD τ) ↦[(wSrc c u).view.set]{qh u} (w c : Buf (Elt F) ((wSrc c u).view.loc (c : Thread nD τ))))
        ∗ ((wSrc c u).view.loc (c : Thread nD τ) ↦[Finset.univ \ (wSrc c u).view.set]{qh u} (w c : Buf (Elt F) ((wSrc c u).view.loc (c : Thread nD τ)))))
      from (pointsTo_split_subset (Finset.subset_univ _)).1) $$ Hw
  icases Hs with ⟨Hs, Hr⟩
  iapply (Transfers.wp_dmaLocal EC 𝒱₀ (c : Thread nD τ) none () (NW u) rfl (View.dmaCredit_pos _ (by decide)) (Finset.Subset.refl _)) $$ [Hs Hd Hv]
  · isplitl [Hs]; · iexact Hs
    isplitl [Hd]; · iexact Hd
    iexact Hv
  iintro HF
  rw [wp_ret]; imodintro
  unfold flying
  isplitl [HF]
  · iapply (Transfers.Flight_mono EC (c : Thread nD τ) ?_) $$ HF
    iintro ⟨Hd, Hs⟩
    isplitl [Hd]
    · unfold owns
      iexists _; isplitr
      swap
      · iexact Hd
      · ipureintro
        exact View.read_write_univ _ _
    · iexact Hs
  · iexact Hr

/-- The narrowed weights after `n` units: each of the last six holds its unit. -/
def WbAt (c : Dev nD) (n : ℕ) : sProp 𝕄 :=
  iprop(∃ f : Buf (Elt F) ((c : Thread nD τ).loc cc0_scratch3),
    ⌜∀ u, u < n → n ≤ u + 6 → (wb.access (wbRectU u)).read (Elt F) f = wConv w c u⌝ ∗ (((c : Thread nD τ).loc cc0_scratch3) ↦{fullShare} f))

/-- Two of six consecutive units lie apart. -/
theorem wbRectU_disjoint (u n : ℕ) (h1 : u < n) (h2 : n ≤ u + 5) : Disjoint (wbRectU u).set (wbRectU n).set := by
  by_cases h : u / 2 % 3 = n / 2 % 3
  · refine Rect.unit_disjoint (2 : Fin 3) ?_
    show u % 2 * 2048 + 2048 ≤ n % 2 * 2048 ∨ n % 2 * 2048 + 2048 ≤ u % 2 * 2048
    omega
  · refine Rect.unit_disjoint (0 : Fin 3) ?_
    show u / 2 % 3 + 1 ≤ n / 2 % 3 ∨ n / 2 % 3 + 1 ≤ u / 2 % 3
    omega

/-- Narrowing one more unit. -/
theorem wb_store (c : Dev nD) (n : ℕ) (f : (cc0_scratch3 : Ref sig .tc).ty.Contents (Elt F))
    (hf : ∀ u, u < n → n ≤ u + 6 → (wb.access (wbRectU u)).read (Elt F) f = wConv w c u) :
    ∀ u, u < n + 1 → n + 1 ≤ u + 6 →
      (wb.access (wbRectU u)).read (Elt F) ((wb.access (wbRectU n)).write (Elt F) f (wConv w c n) Finset.univ) = wConv w c u := by
  intro u h1 h2
  by_cases h : u = n
  · subst h; exact View.read_write_univ _ _
  · have hd : Disjoint (wb.view.slice (wbRectU u)).set ((wb.view.slice (wbRectU n)).setOn Finset.univ) :=
      View.disjoint_slice (v := wb.view) (wbRectU_disjoint u n (by omega) (by omega))
    exact (View.read_slice_write_slice_of_disjoint (v := wb.view) (wbRectU u) (wbRectU n) f _ _ hd).trans (hf u (by omega) (by omega))

/-- Waiting for a unit and narrowing it. -/
theorem convU_spec (c : Dev nD) (u nb nr ne : ℕ) :
    iprop(levAts L lv ∗ flying w c u ∗ WbAt w c u ∗ ow c (owe c nb nr ne))
      ⊢ run c (convU (F := F) u) fun _ => iprop(idle w c u ∗ WbAt w c (u + 1) ∗ ow c (owe c nb nr ne)) := by
  unfold convU run
  simp only [Prog.lift, Prog.bind_op, Prog.bind_ret]
  unfold flying WbAt ow
  iintro ⟨#Hlev, ⟨HF, Hr⟩, ⟨%f, %hf, Hwb⟩, ⟨%W, HO⟩⟩
  iapply (Transfers.wp_waitLocalO EC 𝒱₀ (c : Thread nD τ) none () (N := NW u) rfl) $$ [HF HO]
  · isplitl [HF]; · iexact HF
    isplitl [HO]; · iexact HO
    iapply (mayWait_local c _ (role_w u) nb nr ne); iexact Hlev
  iintro ⟨⟨Hd, Hs⟩, Hv, HO⟩
  ihave Hd := (owns_squeeze (c := c) (ws.slice (wsRect u) (fun _ => rfl)) squeezes_S1x512x2048_S512x2048 shapeCasts_S512x2048_S1x512x2048 fullShare (wV w c u)) $$ Hd
  iapply (load_owns ws (wsRect u) (fun _ => rfl) fullShare _) $$ Hd
  iintro Hd
  iapply (wp_load_rect 𝒱₀ (c : Thread nD τ) none Set.univ (m := wb) (r := wbRectU u) (Finset.subset_univ _)) $$ Hwb
  iintro Hwb
  iapply (wp_store 𝒱₀ (c : Thread nD τ) none Set.univ (m := wb) (r := wbRectU u) (Mk := Finset.univ) (Finset.subset_univ _)) $$ Hwb
  iintro Hwb
  rw [wp_ret]; imodintro
  isplitl [Hd Hs Hr Hv]
  · unfold idle
    isplitl [Hs Hr]
    · iapply (show iprop(((wSrc c u).view.loc (c : Thread nD τ) ↦[(wSrc c u).view.set]{qh u} (w c : Buf (Elt F) ((wSrc c u).view.loc (c : Thread nD τ))))
        ∗ ((wSrc c u).view.loc (c : Thread nD τ) ↦[Finset.univ \ (wSrc c u).view.set]{qh u} (w c : Buf (Elt F) ((wSrc c u).view.loc (c : Thread nD τ)))))
        ⊢ (((c : Thread nD τ).loc main_arg1) ↦{qh u} (w c : Buf (Elt F) ((c : Thread nD τ).loc main_arg1)) : sProp 𝕄)
        from (pointsTo_split_subset (Finset.subset_univ _)).2)
      isplitl [Hs] <;> iassumption
    isplitl [Hd]
    · iexists (wV w c u)
      iapply (owns_unsqueeze (c := c) (ws.slice (wsRect u) (fun _ => rfl)) squeezes_S1x512x2048_S512x2048 shapeCasts_S512x2048_S1x512x2048 fullShare (wV w c u)) $$ Hd
    · iexact Hv
  isplitl [Hwb]
  · iexists _; isplitr
    swap
    · iexact Hwb
    · ipureintro; exact wb_store w c u f hf
  · iexists _; iexact HO

/-- A staging slot: its unit on its way while there is one. -/
def slotSt (c : Dev nD) (u : ℕ) : sProp 𝕄 := if u < 32 then flying w c u else idle w c u

/-- The weights after `n` units: narrowed so far, and two staging slots ahead. -/
def Wst (c : Dev nD) (n : ℕ) : sProp 𝕄 := iprop(WbAt w c n ∗ slotSt w c n ∗ slotSt w c (n + 1))

theorem pumpU_spec (c : Dev nD) (n nb nr ne : ℕ) (hn : n < 32) :
    iprop(levAts L lv ∗ Wst w c n ∗ ow c (owe c nb nr ne))
      ⊢ run c (pumpU c n) fun _ => iprop(Wst w c (n + 1) ∗ ow c (owe c nb nr ne)) := by
  unfold pumpU Wst
  rw [show (slotSt w c n : sProp 𝕄) = flying w c n from if_pos hn]
  by_cases h : n + 2 < 32
  · rw [show (slotSt w c (n + 1 + 1) : sProp 𝕄) = flying w c (n + 2) from if_pos h, if_pos h]
    iintro ⟨#Hlev, ⟨Hwb, Hf, Hs⟩, HO⟩
    iapply (run_step (convU_spec w c n nb nr ne)) $$ [Hwb Hf HO]
    · isplitr; · iexact Hlev
      isplitl [Hf]; · iexact Hf
      isplitl [Hwb] <;> iassumption
    iintro ⟨Hi, Hwb, HO⟩
    ihave Hi := (Entails.of_eq (idle_add_two w c n).symm) $$ Hi
    iapply (run_last (startU_spec w c (n + 2))) $$ Hi
    iintro Hf
    isplitr [HO]
    · isplitl [Hwb]; · iexact Hwb
      isplitl [Hs] <;> iassumption
    · iexact HO
  · rw [show (slotSt w c (n + 1 + 1) : sProp 𝕄) = idle w c (n + 2) from if_neg h, if_neg h]
    iintro ⟨#Hlev, ⟨Hwb, Hf, Hs⟩, HO⟩
    iapply (run_step (convU_spec w c n nb nr ne)) $$ [Hwb Hf HO]
    · isplitr; · iexact Hlev
      isplitl [Hf]; · iexact Hf
      isplitl [Hwb] <;> iassumption
    iintro ⟨Hi, Hwb, HO⟩
    ihave Hi := (Entails.of_eq (idle_add_two w c n).symm) $$ Hi
    unfold run
    rw [Prog.pure_eq_ret, wp_ret]; imodintro
    isplitr [HO]
    · isplitl [Hwb]; · iexact Hwb
      isplitl [Hs] <;> iassumption
    · iexact HO

end Cert.KernelIdeal.Gemm

end
-- ==== Proof.Dots.lean ====
module

public import proofs.«01_k».proof.Proof.Steps

/-!
# The multiplications

What a multiplication reads of the narrowed weights, what it leaves in its half of the accumulator, and the
accumulator's way out.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

variable (x : Dev nD → Vec F S4096x512 .f32) (w : Dev nD → Vec F S4096x8192 .f32)

/-- A whole narrowed block is its two units side by side. -/
theorem wb_read (t : ℕ) (f : (cc0_scratch3 : Ref sig .tc).ty.Contents (Elt F)) :
    (wb.access (wbRect t)).read (Elt F) f
      = beside ((wb.access (wbRectU (2 * t))).read (Elt F) f) ((wb.access (wbRectU (2 * t + 1))).read (Elt F) f) := by
  funext j
  unfold beside
  have h0 : (j 0).val < 1 := (j 0).isLt
  split
  · rename_i h
    show wb.view.read (Elt F) f ((wbRect t).emb j) = wb.view.read (Elt F) f ((wbRectU (2 * t)).emb _)
    refine congrArg _ (funext fun a => Fin.ext ?_)
    match a with
    | ⟨0, _⟩ => show t % 3 + 1 * (j 0).val = 2 * t / 2 % 3 + 1 * (j 0).val; omega
    | ⟨1, _⟩ => show 0 + 1 * (j 1).val = 0 + 1 * (j 1).val; rfl
    | ⟨2, _⟩ => show 0 + 1 * (j 2).val = 2 * t % 2 * 2048 + 1 * (j 2).val; omega
  · rename_i h
    show wb.view.read (Elt F) f ((wbRect t).emb j) = wb.view.read (Elt F) f ((wbRectU (2 * t + 1)).emb _)
    refine congrArg _ (funext fun a => Fin.ext ?_)
    match a with
    | ⟨0, _⟩ => show t % 3 + 1 * (j 0).val = (2 * t + 1) / 2 % 3 + 1 * (j 0).val; omega
    | ⟨1, _⟩ => show 0 + 1 * (j 1).val = 0 + 1 * (j 1).val; rfl
    | ⟨2, _⟩ => show 0 + 1 * (j 2).val = (2 * t + 1) % 2 * 2048 + 1 * ((j 2).val - 2048); omega

/-- Half `t` of the accumulator before multiplication `t`. -/
def half (c : Dev nD) : ℕ → sProp 𝕄
  | 0 => iprop(∃ X : Vec F S512x4096 .f32, owns (c : Thread nD τ) (accCols 0) fullShare X)
  | 1 => iprop(∃ X : Vec F S512x4096 .f32, owns (c : Thread nD τ) (accCols 1) fullShare X)
  | t + 2 => owns (c : Thread nD τ) (accCols t) fullShare (accV x w c t)

theorem half_add_two (c : Dev nD) (t : ℕ) :
    (half x w c (t + 2) : sProp 𝕄) = owns (c : Thread nD τ) (accCols t) fullShare (accV x w c t) := rfl

/-- Nothing left to run. -/
theorem run_ret (c : Dev nD) {α : Type} {a : α} {Q : α → sProp 𝕄} : Q a ⊢ run c (Prog.ret a) Q := by
  unfold run; rw [wp_ret]
  iintro H; imodintro; iexact H

/-- Reading the narrowed weights of multiplication `t`. -/
theorem loadWb_step (c : Dev nD) (t n : ℕ) (h1 : 2 * t + 1 < n) (h2 : n ≤ 2 * t + 6) {α : Type}
    {hl : wb.view.LoadsAt (wbRect t).toLoadRect} {k : Vec F S1x512x4096 .bf16 → P F α} {Q : α → sProp 𝕄} :
    WbAt w c n ⊢ iprop((WbAt w c n -∗ run c (k (wT w c t)) Q) -∗ run c (.op (.load wb (wbRect t).toLoadRect hl) k) Q) := by
  unfold WbAt
  iintro ⟨%f, %hf, H⟩ Hk
  iapply (wp_load_rect 𝒱₀ (c : Thread nD τ) none Set.univ (m := wb) (r := wbRect t) (Finset.subset_univ _)) $$ H
  iintro H
  have e : (wb.access (wbRect t)).read (Elt F) f = wT w c t := by
    rw [wb_read, hf (2 * t) (by omega) (by omega), hf (2 * t + 1) (by omega) (by omega)]; rfl
  rw [e]
  iapply Hk
  iexists f; isplitr
  · ipureintro; exact hf
  · iexact H

theorem dotOwn_spec (c : Dev nD) (t n : ℕ) (ht : t < 2) (h1 : 2 * t + 1 < n) (h2 : n ≤ 2 * t + 6) :
    iprop(owns (c : Thread nD τ) (xbOwn c) fullShare (xrow x c c) ∗ WbAt w c n ∗ half x w c t)
      ⊢ run c (dotOwn (F := F) c t) fun _ =>
        iprop(owns (c : Thread nD τ) (xbOwn c) fullShare (xrow x c c) ∗ WbAt w c n ∗ half x w c (t + 2)) := by
  have hh : (half x w c t : sProp 𝕄) = iprop(∃ X : Vec F S512x4096 .f32, owns (c : Thread nD τ) (accCols t) fullShare X) := by
    rcases t with _ | _ | t
    · rfl
    · rfl
    · omega
  have hv : k0_pay7 (xrow x c c) (wT w c t) = accV x w c t := by
    rcases t with _ | _ | t
    · rfl
    · rfl
    · omega
  rw [hh]
  unfold dotOwn loadWb loadAcc storeAcc run
  simp only [Prog.lift, Prog.bind_op, Prog.bind_ret]
  iintro ⟨Hx, Hwb, ⟨%X, Ha⟩⟩
  iapply (load_owns xb (Rect.unit (s := S4096x512) (k0_off6 c) S512x512.size (k0_off6_inb c)) (fun _ => rfl) fullShare _) $$ Hx
  iintro Hx
  iapply (loadWb_step w c t n h1 h2) $$ Hwb
  iintro Hwb
  iapply (load_owns acc (accRect t) (fun _ => rfl) fullShare _) $$ Ha
  iintro Ha
  iapply (store_owns acc (accRect t) (fun _ => rfl) _) $$ Ha
  iintro Ha
  iapply run_ret
  isplitl [Hx]; · iexact Hx
  isplitl [Hwb]; · iexact Hwb
  rw [half_add_two, ← hv]; iexact Ha

theorem dotRx_spec (c : Dev nD) (q : Fin 7) (s n : ℕ) (hq : qOf (s + 2) = q) (h1 : 2 * (s + 2) + 1 < n) (h2 : n ≤ 2 * (s + 2) + 6) :
    iprop(owns (c : Thread nD τ) (rxSlot q) fullShare (xrow x (pl c q) c) ∗ WbAt w c n ∗ half x w c (s + 2))
      ⊢ run c (dotRx (F := F) q (s + 2)) fun _ =>
        iprop(owns (c : Thread nD τ) (rxSlot q) fullShare (xrow x (pl c q) c) ∗ WbAt w c n ∗ half x w c (s + 2 + 2)) := by
  subst hq
  unfold dotRx loadWb loadAcc storeAcc run
  rw [half_add_two, half_add_two, accCols_congr s (s + 2) (by omega)]
  simp only [Prog.lift, Prog.bind_op, Prog.bind_ret]
  iintro ⟨Hx, Hwb, Ha⟩
  ihave Hx := (owns_squeeze (c := c) (rx.slice (rxRect (qOf (s + 2))) (fun _ => rfl)) squeezes_S1x512x512_S512x512 shapeCasts_S512x512_S1x512x512 fullShare _) $$ Hx
  iapply (load_owns rx (rxRect (qOf (s + 2))) (fun _ => rfl) fullShare _) $$ Hx
  iintro Hx
  iapply (loadWb_step w c (s + 2) n h1 h2) $$ Hwb
  iintro Hwb
  iapply (load_owns acc (accRect (s + 2)) (fun _ => rfl) fullShare _) $$ Ha
  iintro Ha
  iapply (load_owns acc (accRect (s + 2)) (fun _ => rfl) fullShare _) $$ Ha
  iintro Ha
  iapply (store_owns acc (accRect (s + 2)) (fun _ => rfl) _) $$ Ha
  iintro Ha
  iapply run_ret
  isplitl [Hx]
  · iapply (owns_unsqueeze (c := c) (rx.slice (rxRect (qOf (s + 2))) (fun _ => rfl)) squeezes_S1x512x512_S512x512 shapeCasts_S512x512_S1x512x512 fullShare _) $$ Hx
  isplitl [Hwb]; · iexact Hwb
  iexact Ha

/-! ## The way out -/

/-- The credit of half the result. -/
abbrev NO (t : ℕ) : ℕ := (outCols t).view.dmaCredit

/-- Half `t` of the result on its way out. -/
def outFly (c : Dev nD) (t : ℕ) : sProp 𝕄 :=
  Transfers.Flight EC (c : Thread nD τ) (.dma (outSem t)) () (NO t)
    iprop(owns (c : Thread nD τ) (outCols t) fullShare (fin x w c t) ∗ ∃ X : Vec F S512x4096 .f32, owns (c : Thread nD τ) (accCols t) fullShare X)

/-- The activation function, and the half's way out begun. -/
theorem finish_spec (c : Dev nD) (t : ℕ) :
    iprop(half x w c (16 + t) ∗ (∃ X : Vec F S512x4096 .f32, owns (c : Thread nD τ) (outCols t) fullShare X)
        ∗ semVal ((c : Thread nD τ), .dma (outSem t)) 0)
      ⊢ run c (finish (F := F) t) fun _ => outFly x w c t := by
  have hh : (half x w c (16 + t) : sProp 𝕄) = owns (c : Thread nD τ) (accCols t) fullShare (accV x w c (14 + t)) := by
    rw [show 16 + t = 14 + t + 2 by omega]; rw [half_add_two, accCols_congr (14 + t) t (by omega)]
  rw [hh]
  unfold finish loadAcc storeAcc run
  simp only [Prog.lift, Prog.bind_op, Prog.bind_ret]
  iintro ⟨Ha, ⟨%X, Ho⟩, Hv⟩
  iapply (load_owns acc (accRect t) (fun _ => rfl) fullShare _) $$ Ha
  iintro Ha
  iapply (load_owns acc (accRect t) (fun _ => rfl) fullShare _) $$ Ha
  iintro Ha
  iapply (store_owns acc (accRect t) (fun _ => rfl) _) $$ Ha
  iintro Ha
  unfold owns
  icases Ha with ⟨%fs, %hfs, Ha⟩
  icases Ho with ⟨%fd, %hfd, Ho⟩
  iapply (Transfers.wp_dmaLocal EC 𝒱₀ (c : Thread nD τ) none () (NO t) rfl (View.dmaCredit_pos _ (by decide)) (Finset.Subset.refl _)) $$ [Ha Ho Hv]
  · isplitl [Ha]; · iexact Ha
    isplitl [Ho]; · iexact Ho
    iexact Hv
  iintro HF
  iapply run_ret
  unfold outFly
  iapply (Transfers.Flight_mono EC (c : Thread nD τ) ?_) $$ HF
  iintro ⟨Ho, Ha⟩
  isplitl [Ho]
  · unfold owns
    iexists _; isplitr
    swap
    · iexact Ho
    · ipureintro
      exact (View.read_write_univ _ _).trans hfs
  · iexists _
    unfold owns
    iexists fs; isplitr
    · ipureintro; exact hfs
    · iexact Ha

/-- Waiting for a half to be out. -/
theorem outWait_spec (c : Dev nD) (t nb nr ne : ℕ) :
    iprop(levAts L lv ∗ outFly x w c t ∗ ow c (owe c nb nr ne))
      ⊢ run c (outWait (F := F) t) fun _ => iprop(owns (c : Thread nD τ) (outCols t) fullShare (fin x w c t)
        ∗ (∃ X : Vec F S512x4096 .f32, owns (c : Thread nD τ) (accCols t) fullShare X)
        ∗ semVal ((c : Thread nD τ), .dma (outSem t)) 0 ∗ ow c (owe c nb nr ne)) := by
  unfold outWait run
  simp only [Prog.lift]
  unfold outFly ow
  iintro ⟨#Hlev, HF, ⟨%W, HO⟩⟩
  iapply (Transfers.wp_waitLocalO EC 𝒱₀ (c : Thread nD τ) none () (N := NO t) rfl) $$ [HF HO]
  · isplitl [HF]; · iexact HF
    isplitl [HO]; · iexact HO
    iapply (mayWait_local c _ (role_out t) nb nr ne); iexact Hlev
  iintro ⟨⟨Ho, Ha⟩, Hv, HO⟩
  iapply run_ret
  isplitl [Ho]; · iexact Ho
  isplitl [Ha]; · iexact Ha
  isplitl [Hv]; · iexact Hv
  iexists _; iexact HO

/-! ## Rounds -/

/-- Two units further. -/
theorem refill_spec (c : Dev nD) (t nb nr ne : ℕ) (ht : t < 14) :
    iprop(levAts L lv ∗ Wst w c (2 * t + 4) ∗ ow c (owe c nb nr ne))
      ⊢ run c (refill (F := F) c t) fun _ => iprop(Wst w c (2 * (t + 1) + 4) ∗ ow c (owe c nb nr ne)) := by
  unfold refill
  iintro ⟨#Hlev, HW, HO⟩
  iapply (run_step (pumpU_spec w c (2 * t + 4) nb nr ne (by omega))) $$ [HW HO]
  · isplitr; · iexact Hlev
    isplitl [HW] <;> iassumption
  iintro ⟨HW, HO⟩
  iapply (run_last (pumpU_spec w c (2 * t + 5) nb nr ne (by omega))) $$ [HW HO]
  · isplitr; · iexact Hlev
    isplitl [HW] <;> iassumption
  iintro H
  iexact H

/-- What the multiplications carry: the weights ahead, the two halves, the debts. -/
def Mst (c : Dev nD) (t n : ℕ) : sProp 𝕄 :=
  iprop(Wst w c n ∗ (half x w c t ∗ half x w c (t + 1)) ∗ ow c (owe c 7 7 0))

/-- A multiplication with the device's own rows, and its refill. -/
theorem stepOwn_spec (c : Dev nD) (t : ℕ) (ht : t < 2) {α : Type} {k : PUnit → P F α} {Q : α → sProp 𝕄} :
    iprop(levAts L lv ∗ owns (c : Thread nD τ) (xbOwn c) fullShare (xrow x c c) ∗ Mst x w c t (2 * t + 4))
      ⊢ iprop((iprop(owns (c : Thread nD τ) (xbOwn c) fullShare (xrow x c c) ∗ Mst x w c (t + 1) (2 * (t + 1) + 4)) -∗ run c (k ⟨⟩) Q)
        -∗ run c (dotOwn (F := F) c t >>= fun _ => refill c t >>= k) Q) := by
  unfold Mst Wst
  iintro ⟨#Hlev, Hx, ⟨Hwb, Hs0, Hs1⟩, ⟨Ha, Hb⟩, HO⟩ Hk
  iapply (run_step (dotOwn_spec x w c t (2 * t + 4) ht (by omega) (by omega))) $$ [Hx Hwb Ha]
  · isplitl [Hx]; · iexact Hx
    isplitl [Hwb] <;> iassumption
  iintro ⟨Hx, Hwb, Ha⟩
  iapply (run_step (refill_spec w c t 7 7 0 (by omega))) $$ [Hwb Hs0 Hs1 HO]
  · isplitr; · iexact Hlev
    isplitr [HO]
    · unfold Wst
      isplitl [Hwb]; · iexact Hwb
      isplitl [Hs0] <;> iassumption
    · iexact HO
  iintro ⟨HW, HO⟩
  iapply Hk
  isplitl [Hx]; · iexact Hx
  isplitl [HW]; · unfold Wst; iexact HW
  isplitr [HO]
  · isplitl [Hb] <;> iassumption
  · iexact HO

/-- A multiplication with landed rows, and its refill. -/
theorem stepRx_spec (c : Dev nD) (q : Fin 7) (s : ℕ) (hq : qOf (s + 2) = q) (ht : s + 2 < 14) {α : Type} {k : PUnit → P F α} {Q : α → sProp 𝕄} :
    iprop(levAts L lv ∗ owns (c : Thread nD τ) (rxSlot q) fullShare (xrow x (pl c q) c) ∗ Mst x w c (s + 2) (2 * (s + 2) + 4))
      ⊢ iprop((iprop(owns (c : Thread nD τ) (rxSlot q) fullShare (xrow x (pl c q) c) ∗ Mst x w c (s + 2 + 1) (2 * (s + 2 + 1) + 4)) -∗ run c (k ⟨⟩) Q)
        -∗ run c (dotRx (F := F) q (s + 2) >>= fun _ => refill c (s + 2) >>= k) Q) := by
  unfold Mst Wst
  iintro ⟨#Hlev, Hx, ⟨Hwb, Hs0, Hs1⟩, ⟨Ha, Hb⟩, HO⟩ Hk
  iapply (run_step (dotRx_spec x w c q s (2 * (s + 2) + 4) hq (by omega) (by omega))) $$ [Hx Hwb Ha]
  · isplitl [Hx]; · iexact Hx
    isplitl [Hwb] <;> iassumption
  iintro ⟨Hx, Hwb, Ha⟩
  iapply (run_step (refill_spec w c (s + 2) 7 7 0 ht)) $$ [Hwb Hs0 Hs1 HO]
  · isplitr; · iexact Hlev
    isplitr [HO]
    · unfold Wst
      isplitl [Hwb]; · iexact Hwb
      isplitl [Hs0] <;> iassumption
    · iexact HO
  iintro ⟨HW, HO⟩
  iapply Hk
  isplitl [Hx]; · iexact Hx
  isplitl [HW]; · unfold Wst; iexact HW
  isplitr [HO]
  · isplitl [Hb] <;> iassumption
  · iexact HO

end Cert.KernelIdeal.Gemm

end
-- ==== Proof.Comm.lean ====
module

public import proofs.«01_k».proof.Proof.Dots

/-!
# The exchange

The steps in which a device meets its peers: the barrier, the transfers, the landings and the exit barrier.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## Families over the peers -/

theorem seven (T : Fin 7 → sProp 𝕄) :
    bigSep Finset.univ T = iprop(T 0 ∗ T 1 ∗ T 2 ∗ T 3 ∗ T 4 ∗ T 5 ∗ T 6) := by
  rw [show (Finset.univ : Finset (Fin 7)) = {0, 1, 2, 3, 4, 5, 6} by decide, bigSep_insert (by decide), bigSep_insert (by decide),
    bigSep_insert (by decide), bigSep_insert (by decide), bigSep_insert (by decide), bigSep_insert (by decide), bigSep_singleton]
  rfl

/-- A persistent fact serves every member of a family. -/
theorem bigSep_with {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans ((Entails.of_eq (bigSep_sep' S (fun _ => R) A).symm).trans (bigSep_mono h))

/-- A loop over the peers. -/
theorem peers_spec (c : Dev nD) {R : sProp 𝕄} [BI.Persistent R] {St : ℕ → sProp 𝕄} {T Out : Fin 7 → sProp 𝕄} {f : Fin 7 → P F PUnit}
    (h : ∀ q : Fin 7, iprop(R ∗ St q.val ∗ T q) ⊢ run c (f q) fun _ => iprop(St (q.val + 1) ∗ Out q)) :
    iprop(R ∗ St 0 ∗ bigSep Finset.univ T) ⊢ run c (peers f) fun _ => iprop(St 7 ∗ bigSep Finset.univ Out) := by
  have h0 : iprop(R ∗ St 0 ∗ T 0) ⊢ run c (f 0) fun _ => iprop(St 1 ∗ Out 0) := h 0
  have h1 : iprop(R ∗ St 1 ∗ T 1) ⊢ run c (f 1) fun _ => iprop(St 2 ∗ Out 1) := h 1
  have h2 : iprop(R ∗ St 2 ∗ T 2) ⊢ run c (f 2) fun _ => iprop(St 3 ∗ Out 2) := h 2
  have h3 : iprop(R ∗ St 3 ∗ T 3) ⊢ run c (f 3) fun _ => iprop(St 4 ∗ Out 3) := h 3
  have h4 : iprop(R ∗ St 4 ∗ T 4) ⊢ run c (f 4) fun _ => iprop(St 5 ∗ Out 4) := h 4
  have h5 : iprop(R ∗ St 5 ∗ T 5) ⊢ run c (f 5) fun _ => iprop(St 6 ∗ Out 5) := h 5
  have h6 : iprop(R ∗ St 6 ∗ T 6) ⊢ run c (f 6) fun _ => iprop(St 7 ∗ Out 6) := h 6
  rw [seven, seven]
  unfold peers
  iintro ⟨#HR, HS, T0, T1, T2, T3, T4, T5, T6⟩
  iapply (run_step h0) $$ [HS T0]
  · isplitr; · iexact HR
    isplitl [HS] <;> iassumption
  iintro ⟨HS, O0⟩
  iapply (run_step h1) $$ [HS T1]
  · isplitr; · iexact HR
    isplitl [HS] <;> iassumption
  iintro ⟨HS, O1⟩
  iapply (run_step h2) $$ [HS T2]
  · isplitr; · iexact HR
    isplitl [HS] <;> iassumption
  iintro ⟨HS, O2⟩
  iapply (run_step h3) $$ [HS T3]
  · isplitr; · iexact HR
    isplitl [HS] <;> iassumption
  iintro ⟨HS, O3⟩
  iapply (run_step h4) $$ [HS T4]
  · isplitr; · iexact HR
    isplitl [HS] <;> iassumption
  iintro ⟨HS, O4⟩
  iapply (run_step h5) $$ [HS T5]
  · isplitr; · iexact HR
    isplitl [HS] <;> iassumption
  iintro ⟨HS, O5⟩
  iapply (run_last h6) $$ [HS T6]
  · isplitr; · iexact HR
    isplitl [HS] <;> iassumption
  iintro ⟨HS, O6⟩
  isplitl [HS]; · iexact HS
  isplitl [O0]; · iexact O0
  isplitl [O1]; · iexact O1
  isplitl [O2]; · iexact O2
  isplitl [O3]; · iexact O3
  isplitl [O4]; · iexact O4
  isplitl [O5]; · iexact O5
  iexact O6

/-! ## The cells numbered -/

/-- The protocol's semaphores of one device: the barrier, the exit barrier, the seven departures, the seven landings. -/
def csem (k : Fin 16) : SemLoc sig :=
  if k.val = 0 then .reg barSem else if k.val = 1 then .reg exitSem
  else if h : k.val < 9 then .dma (sendSem (⟨(k.val - 2) % 7, Nat.mod_lt _ (by decide)⟩ : Fin 7))
  else .dma (recvSem (⟨(k.val - 9) % 7, Nat.mod_lt _ (by decide)⟩ : Fin 7))
abbrev kcell (ck : Dev nD × Fin 16) : GSem nD τ sig := ((ck.1 : Thread nD τ), csem ck.2)
set_option backward.proofsInPublic true in
def sK (q : Fin 7) : Fin 16 := ⟨q.val + 2, by omega⟩
set_option backward.proofsInPublic true in
def rK (q : Fin 7) : Fin 16 := ⟨q.val + 9, by omega⟩
theorem csem_bar : csem 0 = .reg barSem := rfl
theorem csem_exit : csem 1 = .reg exitSem := rfl
theorem csem_send (q : Fin 7) : csem (sK q) = .dma (sendSem q) := by revert q; decide
theorem csem_recv (q : Fin 7) : csem (rK q) = .dma (recvSem q) := by revert q; decide

variable (x : Dev nD → Vec F S4096x512 .f32) (K : Dev nD × Fin 16 → ℕ)

/-- What every device knows: the cells' invariants, and that all are in their first round. -/
def records : sProp 𝕄 :=
  iprop((bigSep Finset.univ fun ck => cellInv ER (Rd x) (K ck) (kcell ck)) ∗ bigSep Finset.univ fun ck => reached ER (kcell ck) 0)
instance records_persistent : BI.Persistent (records x K : sProp 𝕄) := by unfold records; infer_instance

theorem records_at (ck : Dev nD × Fin 16) :
    records x K ⊢ iprop(cellInv ER (Rd x) (K ck) (kcell ck) ∗ reached ER (kcell ck) 0) := by
  have h1 : (bigSep Finset.univ fun ck : Dev nD × Fin 16 => (cellInv ER (Rd x) (K ck) (kcell ck) : sProp 𝕄)) ⊢ cellInv ER (Rd x) (K ck) (kcell ck) :=
    bigSep_elim (Finset.mem_univ ck)
  have h2 : (bigSep Finset.univ fun ck : Dev nD × Fin 16 => (reached ER (kcell ck) 0 : sProp 𝕄)) ⊢ reached ER (kcell ck) 0 :=
    bigSep_elim (Finset.mem_univ ck)
  unfold records
  iintro ⟨#HI, #HR⟩
  isplitr
  · iapply h1; iexact HI
  · iapply h2; iexact HR

theorem rec_bar (c : Dev nD) : records x K ⊢ iprop(cellInv ER (Rd x) (K (c, 0)) (barCell c) ∗ reached ER (barCell c) 0) := records_at x K (c, 0)
theorem rec_exit (c : Dev nD) : records x K ⊢ iprop(cellInv ER (Rd x) (K (c, 1)) (exitCell c) ∗ reached ER (exitCell c) 0) := records_at x K (c, 1)
theorem rec_send (c : Dev nD) (q : Fin 7) : records x K ⊢ iprop(cellInv ER (Rd x) (K (c, sK q)) (sendCell c q) ∗ reached ER (sendCell c q) 0) :=
  (records_at x K (c, sK q)).trans (Entails.of_eq (by dsimp only [kcell]; rw [csem_send]))
theorem rec_recv (c : Dev nD) (q : Fin 7) : records x K ⊢ iprop(cellInv ER (Rd x) (K (c, rK q)) (recvCell c q) ∗ reached ER (recvCell c q) 0) :=
  (records_at x K (c, rK q)).trans (Entails.of_eq (by dsimp only [kcell]; rw [csem_recv]))

variable (c : Dev nD)

/-! ## The steps -/

/-- The barrier signal hands the peer the landing slot the peer will fill. -/
theorem signalB_spec (q : Fin 7) :
    iprop(records x K ∗ ow c (owe c q.val 0 0) ∗ (dutyTok ER (barCell (pr c q)) 0 (rv q) ∗ ∃ X : Vec F S512x512 .bf16, owns (c : Thread nD τ) (rxSlot (rv q)) fullShare X))
      ⊢ run c (signalB (F := F) c q) fun _ => iprop(ow c (owe c (q.val + 1) 0 0) ∗ emp) := by
  unfold signalB run ow
  rw [devB_eq]
  simp only [semSignalWord, Prog.lift]
  iintro ⟨#HR, ⟨%W, HO⟩, Ht, Hx⟩
  ihave HB := (rec_bar x K (pr c q)) $$ HR
  icases HB with ⟨#HI, #Hr⟩
  ihave HV := (rec_recv x K c (rv q)) $$ HR
  icases HV with ⟨-, #Hrv⟩
  iapply (Rounds.wp_signal 𝒱₀ ER (Rd x) (c : Thread nD τ) none (dst := (pr c q : Thread nD τ)) (κ := K (pr c q, 0))
      (d := rv q) (by rw [duties_bar]; exact Finset.mem_univ _) ((amount_bar x (pr c q) (rv q)).trans (by decide)) () (owe c (q.val + 1) 0 0) (owe_bar c q 0 0))
    $$ [HO Ht Hx]
  · isplitr; · iexact HI
    isplitl [HO]; · iexact HO
    isplitl [Ht]; · iexact Ht
    isplitl [Hx]
    · rw [payload_bar]; unfold barPay; rw [pr_rv]
      isplitl [Hx]; · iexact Hx
      iexact Hrv
    · iexact Hr
  iintro HO
  iapply run_ret
  isplitl [HO]
  · iexists W; iexact HO
  · iempintro

/-- The barrier: every peer's landing slot for this device. -/
theorem waitB_spec :
    iprop(records x K ∗ levAts L lv ∗ ow c (owe c 7 0 0) ∗ cred (tallyAt (barCell c) () 7) ∗ atPos ER (barCell c) 0 ∅ 0)
      ⊢ run c (semWaitWord barSem 7#32 : P F PUnit) fun _ =>
        iprop(ow c (owe c 7 0 0) ∗ atPos ER (barCell c) 1 ∅ 0 ∗ bigSep Finset.univ fun e : Fin 7 => barPay c e) := by
  unfold run ow
  simp only [semWaitWord, Prog.lift]
  iintro ⟨#HR, #Hlev, ⟨%W, HO⟩, Hc, Ha⟩
  ihave HB := (rec_bar x K c) $$ HR
  icases HB with ⟨#HI, #Hr⟩
  iapply (Rounds.wp_wait_rest_token 𝒱₀ ER (Rd x) (c : Thread nD τ) none (κ := K (c, 0))
      (wpE_semWait_eq 𝒱₀ (c : Thread nD τ) none Set.univ) (Set.mem_univ _) () (O := owe c 7 0 0) (W := W) (R := 0) (m := 0) (T := ∅)
      (by rw [Nat.zero_add, expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  ihave Hp := (Entails.of_eq (rest_bar x c)) $$ Hp
  iapply run_ret
  isplitl [HO]
  · iexists _; iexact HO
  isplitl [Ha] <;> iassumption

/-- The rows a transfer reads are what its departure hands back; -/
theorem pay_send (q : Fin 7) (fs : (xbRows c q).view.ty.Contents (Elt F)) (h : (xbRows c q).view.read (Elt F) fs = xrow x c (pr c q)) :
    ((xbRows c q).view.loc (c : Thread nD τ) ↦[(xbRows c q).view.set]{fullShare} fs : sProp 𝕄) ⊢ (Rd x).payload (sendCell c q) 0 0 := by
  rw [payload_send]; unfold sendPay; rw [← h]; exact owns_intro _ _ _ _

/-- and what it writes is what its landing hands over. -/
theorem pay_recv (q : Fin 7) (fs : (xbRows c q).view.ty.Contents (Elt F)) (h : (xbRows c q).view.read (Elt F) fs = xrow x c (pr c q))
    (fd : (rxSlot q).view.ty.Contents (Elt F)) :
    ((rxSlot q).view.loc (pr c q : Thread nD τ) ↦[(rxSlot q).view.set]{fullShare} ((rxSlot q).view.write (Elt F) fd ((xbRows c q).view.read (Elt F) fs) Finset.univ) : sProp 𝕄)
      ⊢ (Rd x).payload (recvCell (pr c q) q) 0 0 := by
  rw [payload_recv]; unfold recvPay; rw [pl_pr, h]
  generalize xrow x c (pr c q) = X
  refine (owns_intro (pr c q : Thread nD τ) (rxSlot q) fullShare _).trans (Entails.of_eq ?_)
  exact congrArg _ (View.read_write_univ _ _)

/-- The transfer rule at a block of rows, whatever expression names the device it goes to. -/
theorem send_rows (n : Dev nD) (q : Fin 7) (hn : n = pr c q) {hsc : (rxSlot q : Memref sig (Dev.tc n : Thread nD τ).2.kind .vmem S512x512 .bf16).view.ref.isScScratch = false}
    {hsrc : (xbRows c q).view.WordExact} {hdst : (rxSlot q : Memref sig (Dev.tc n : Thread nD τ).2.kind .vmem S512x512 .bf16).view.WordExact}
    {hsem : DmaTarget.Typed .vmem (.dma (recvSem q)) (.remote (Dev.tc n : Thread nD τ) (rxSlot q : Memref sig .tc .vmem S512x512 .bf16) (.dma (sendSem q)) hsc)}
    {α : Type} {Q : α → sProp 𝕄} {k : PUnit → P F α}
    (fs : (xbRows c q).view.ty.Contents (Elt F)) (h : (xbRows c q).view.read (Elt F) fs = xrow x c (pr c q))
    (fd : (rxSlot q).view.ty.Contents (Elt F)) (W : Waits sig Unit) :
    iprop(cellInv ER (Rd x) (K (c, sK q)) (sendCell c q) ∗ cellInv ER (Rd x) (K (pr c q, rK q)) (recvCell (pr c q) q)
        ∗ ((xbRows c q).view.loc (c : Thread nD τ) ↦[(xbRows c q).view.set]{fullShare} fs)
        ∗ ((rxSlot q).view.loc (pr c q : Thread nD τ) ↦[(rxSlot q).view.set]{fullShare} fd)
        ∗ owes (c : Thread nD τ) (owe c 7 q.val 0) W
        ∗ dutyTok ER (sendCell c q) 0 0 ∗ reached ER (sendCell c q) 0
        ∗ dutyTok ER (recvCell (pr c q) q) 0 0 ∗ reached ER (recvCell (pr c q) q) 0)
      ⊢ iprop(((cred (tallyAt (sendCell c q) () N) ∗ owes (c : Thread nD τ) (owe c 7 (q.val + 1) 0) W) -∗ run c (k ⟨⟩) Q)
        -∗ run c (.op (.enqueueDma (xbRows c q) (.remote (Dev.tc n : Thread nD τ) (rxSlot q) (.dma (sendSem q)) hsc) (.dma (recvSem q)) hsrc hdst hsem) k) Q) := by
  subst hn
  exact Rounds.wp_send_pointsTo 𝒱₀ ER (Rd x) (c : Thread nD τ) none (κ₁ := K (c, sK q)) (κ₂ := K (pr c q, rK q))
    (c' := (pr c q : Thread nD τ)) (dst := rxSlot q) (sem := .dma (recvSem q)) (r₁ := 0) (r₂ := 0) (d₁ := 0) (d₂ := 0) (fd := fd)
    (by rw [duties_send]; exact Finset.mem_singleton_self _) (by rw [duties_recv]; exact Finset.mem_singleton_self _)
    () () N (N_eq q) (amount_send x c q 0) (amount_recv x (pr c q) q 0) (owe c 7 (q.val + 1) 0) (owe_recv c q 7 0) (W := W)
    (pay_send x c q fs h) (pay_recv x c q fs h fd)

/-- A block of rows sent into its peer's slot. -/
theorem sendQ_spec (q : Fin 7) :
    iprop(records x K ∗ ow c (owe c 7 q.val 0) ∗ (sendPay x c q ∗ barPay c q ∗ dutyTok ER (sendCell c q) 0 0 ∗ dutyTok ER (recvCell (pr c q) q) 0 0))
      ⊢ run c (sendQ (F := F) c q) fun _ => iprop(ow c (owe c 7 (q.val + 1) 0) ∗ cred (tallyAt (sendCell c q) () N)) := by
  unfold sendQ Prog.lift sendPay barPay ow owns
  iintro ⟨#HR, ⟨%W, HO⟩, ⟨%fs, %hfs, Hs⟩, ⟨⟨%X, %fd, %hfd, Hd⟩, -⟩, HtS, HtV⟩
  ihave HS := (rec_send x K c q) $$ HR
  icases HS with ⟨#HIs, #Hrs⟩
  ihave HV := (rec_recv x K (pr c q) q) $$ HR
  icases HV with ⟨#HIv, #Hrv⟩
  iapply (send_rows x K c _ q (devS_eq c q) fs hfs fd W) $$ [HO Hs Hd HtS HtV]
  · isplitr; · iexact HIs
    isplitr; · iexact HIv
    isplitl [Hs]; · iexact Hs
    isplitl [Hd]; · iexact Hd
    isplitl [HO]; · iexact HO
    isplitl [HtS]; · iexact HtS
    isplitr; · iexact Hrs
    isplitl [HtV]; · iexact HtV
    iexact Hrv
  iintro ⟨Hc, HO⟩
  iapply run_ret
  isplitl [HO]
  · iexists _; iexact HO
  · iexact Hc

/-- The rows landed in a slot. -/
theorem recvQ_spec (q : Fin 7) :
    iprop(records x K ∗ levAts L lv ∗ ow c (owe c 7 7 0) ∗ cred (tallyAt (recvCell c q) () N) ∗ atPos ER (recvCell c q) 0 ∅ 0)
      ⊢ run c (recvQ (F := F) q) fun _ => iprop(ow c (owe c 7 7 0) ∗ atPos ER (recvCell c q) 1 ∅ 0 ∗ recvPay x c q) := by
  unfold recvQ run ow
  simp only [Prog.lift]
  iintro ⟨#HR, #Hlev, ⟨%W, HO⟩, Hc, Ha⟩
  ihave HB := (rec_recv x K c q) $$ HR
  icases HB with ⟨#HI, #Hr⟩
  iapply (Rounds.wp_wait_rest_token 𝒱₀ ER (Rd x) (c : Thread nD τ) none (κ := K (c, rK q))
      (wpE_waitDma2_eq 𝒱₀ (c : Thread nD τ) none Set.univ) (Set.mem_univ _) () (O := owe c 7 7 0) (W := W) (R := 0) (m := 0) (T := ∅)
      (by rw [Nat.zero_add, expect_recv])) $$ [Hc HO Ha]
  · isplitr; · iexact HI
    isplitl [Hc]; · iexact Hc
    isplitl [HO]; · iexact HO
    isplitr; · iapply (mayWait_recv c q); iexact Hlev
    iexact Ha
  iintro ⟨HO, Ha, -, Hp⟩
  ihave Hp := (Entails.of_eq (rest_recv x c q)) $$ Hp
  iapply run_ret
  isplitl [HO]
  · iexists _; iexact HO
  isplitl [Ha] <;> iassumption

/-- A transfer has left: its rows are the device's again. -/
theorem sentQ_spec (q : Fin 7) :
    iprop(iprop(records x K ∗ levAts L lv) ∗ ow c (owe c 7 7 0) ∗ (cred (tallyAt (sendCell c q) () N) ∗ atPos ER (sendCell c q) 0 ∅ 0))
      ⊢ run c (sentQ (F := F) c q) fun _ => iprop(ow c (owe c 7 7 0) ∗ (atPos ER (sendCell c q) 1 ∅ 0 ∗ sendPay x c q)) := by
  unfold sentQ run ow
  simp only [Prog.lift]
  iintro ⟨⟨#HR, #Hlev⟩, ⟨%W, HO⟩, Hc, Ha⟩
  ihave HB := (rec_send x K c q) $$ HR
  icases HB with ⟨#HI, #Hr⟩
  iapply (Rounds.wp_wait_rest_token 𝒱₀ ER (Rd x) (c : Thread nD τ) none (κ := K (c, sK q))
      (wpE_waitDma2_eq 𝒱₀ (c : Thread nD τ) none Set.univ) (Set.mem_univ _) () (O := owe c 7 7 0) (W := W) (R := 0) (m := 0) (T := ∅)
      (by rw [Nat.zero_add, expect_send])) $$ [Hc HO Ha]
  · isplitr; · iexact HI
    isplitl [Hc]; · iexact Hc
    isplitl [HO]; · iexact HO
    isplitr; · iapply (mayWait_send c q); iexact Hlev
    iexact Ha
  iintro ⟨HO, Ha, -, Hp⟩
  ihave Hp := (Entails.of_eq (rest_send x c q)) $$ Hp
  iapply run_ret
  isplitl [HO]
  · iexists _; iexact HO
  isplitl [Ha] <;> iassumption

/-- The exit signal hands nothing over. -/
theorem signalE_spec (q : Fin 7) :
    iprop(records x K ∗ ow c (owe c 7 7 q.val) ∗ dutyTok ER (exitCell (pr c q)) 0 (rv q))
      ⊢ run c (signalE (F := F) c q) fun _ => iprop(ow c (owe c 7 7 (q.val + 1)) ∗ emp) := by
  unfold signalE run ow
  rw [devE_eq]
  simp only [semSignalWord, Prog.lift]
  iintro ⟨#HR, ⟨%W, HO⟩, Ht⟩
  ihave HB := (rec_exit x K (pr c q)) $$ HR
  icases HB with ⟨#HI, #Hr⟩
  iapply (Rounds.wp_signal 𝒱₀ ER (Rd x) (c : Thread nD τ) none (dst := (pr c q : Thread nD τ)) (κ := K (pr c q, 1))
      (d := rv q) (by rw [duties_exit]; exact Finset.mem_univ _) ((amount_exit x (pr c q) (rv q)).trans (by decide)) () (owe c 7 7 (q.val + 1)) (owe_exit c q 7 7))
    $$ [HO Ht]
  · isplitr; · iexact HI
    isplitl [HO]; · iexact HO
    isplitl [Ht]; · iexact Ht
    isplitr
    · rw [payload_exit]; iempintro
    · iexact Hr
  iintro HO
  iapply run_ret
  isplitl [HO]
  · iexists W; iexact HO
  · iempintro

/-- The exit barrier. -/
theorem waitE_spec :
    iprop(records x K ∗ levAts L lv ∗ ow c (owe c 7 7 7) ∗ cred (tallyAt (exitCell c) () 7) ∗ atPos ER (exitCell c) 0 ∅ 0)
      ⊢ run c (semWaitWord exitSem 7#32 : P F PUnit) fun _ => iprop(ow c (owe c 7 7 7) ∗ atPos ER (exitCell c) 1 ∅ 0) := by
  unfold run ow
  simp only [semWaitWord, Prog.lift]
  iintro ⟨#HR, #Hlev, ⟨%W, HO⟩, Hc, Ha⟩
  ihave HB := (rec_exit x K c) $$ HR
  icases HB with ⟨#HI, #Hr⟩
  iapply (Rounds.wp_wait_rest_token 𝒱₀ ER (Rd x) (c : Thread nD τ) none (κ := K (c, 1))
      (wpE_semWait_eq 𝒱₀ (c : Thread nD τ) none Set.univ) (Set.mem_univ _) () (O := owe c 7 7 7) (W := W) (R := 0) (m := 0) (T := ∅)
      (by rw [Nat.zero_add, expect_exit]; decide)) $$ [Hc HO Ha]
  · isplitr; · iexact HI
    isplitl [Hc]; · iexact Hc
    isplitl [HO]; · iexact HO
    isplitr; · iapply (mayWait_exit c); iexact Hlev
    iexact Ha
  iintro ⟨HO, Ha, -, -⟩
  iapply run_ret
  isplitl [HO]
  · iexists _; iexact HO
  · iexact Ha

/-- A cell whose one round is over is closed. -/
theorem close_cell (ck : Dev nD × Fin 16) :
    iprop(records x K ∗ atPos ER (kcell ck) 1 ∅ 0) ⊢ iprop(|={Set.univ}=> semVal (kcell ck) 0) := by
  iintro ⟨#HR, Ha⟩
  ihave HB := (records_at x K ck) $$ HR
  icases HB with ⟨#HI, -⟩
  iapply (Rounds.cell_close ER (Rd x) (Set.mem_univ (K ck)) (fun h => h) (R := 0 + 1) (duties_later x (kcell ck)))
  isplitr; · iexact HI
  iexact Ha

end Cert.KernelIdeal.Gemm

end
-- ==== Proof.Split.lean ====
module

public import proofs.«01_k».proof.Proof.Comm

/-!
# Buffers in pieces

The buffers the kernel uses in pieces, split before the body and joined after it.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

/-- A buffer held whole, whatever it contains. -/
def anyB (c : Dev nD) (b : Ref sig .tc) : sProp 𝕄 :=
  iprop(∃ f : Buf (Elt F) ((c : Thread nD τ).loc b), (((c : Thread nD τ).loc b) ↦{fullShare} f))

theorem anyB_owns (c : Dev nD) (b : Ref sig .tc) :
    (anyB c b : sProp 𝕄) ⊢ iprop(∃ X : b.ty.Contents (Elt F), owns (c : Thread nD τ) (Memref.whole b) fullShare X) := by
  unfold anyB
  iintro ⟨%f, H⟩
  iexists f
  rw [owns_whole]; iexact H
theorem owns_anyB (c : Dev nD) (b : Ref sig .tc) (X : b.ty.Contents (Elt F)) :
    (owns (c : Thread nD τ) (Memref.whole b) fullShare X : sProp 𝕄) ⊢ anyB c b := by
  unfold anyB
  rw [owns_whole]
  iintro H
  iexists X; iexact H

section Generic
variable (c : Dev nD) {sp : Space} {sh : Shape} {e : EltTy} (m : Memref sig .tc sp sh e)
  {T : Type} [Fintype T] [DecidableEq T] (off : T → Fin sh.rank → ℕ) (size : Fin sh.rank → ℕ)
  (inb : ∀ t a, off t a + size a ≤ sh.size a)
  (hd : ∀ t t', t ≠ t' → Disjoint (Rect.unit (s := sh) (off t) size (inb t)).set (Rect.unit (s := sh) (off t') size (inb t')).set)
  (hcov : (Finset.univ : Finset T).biUnion (fun t => (Rect.unit (s := sh) (off t) size (inb t)).set) = Finset.univ)

include hd hcov

/-- A memref splits into the parts of a disjoint cover. -/
theorem split_parts (X : sh.Idx → Elt F e) :
    (owns (c : Thread nD τ) m fullShare X : sProp 𝕄)
      ⊢ bigSep Finset.univ fun t => owns (c : Thread nD τ) (m.slice (Rect.unit (s := sh) (off t) size (inb t)) (fun _ => rfl)) fullShare
          (fun j => X ((Rect.unit (s := sh) (off t) size (inb t)).emb j)) :=
  owns_rects (c : Thread nD τ) m fullShare (fun t => Rect.unit (s := sh) (off t) size (inb t)) (fun _ _ => rfl) hd hcov X

/-- The same without the contents. -/
theorem split_any :
    (iprop(∃ X : sh.Idx → Elt F e, owns (c : Thread nD τ) m fullShare X) : sProp 𝕄)
      ⊢ bigSep Finset.univ fun t => iprop(∃ X : (Rect.unit (s := sh) (off t) size (inb t)).shape.Idx → Elt F e,
          owns (c : Thread nD τ) (m.slice (Rect.unit (s := sh) (off t) size (inb t)) (fun _ => rfl)) fullShare X) := by
  have hone (X : sh.Idx → Elt F e) (t : T) :
      (owns (c : Thread nD τ) (m.slice (Rect.unit (s := sh) (off t) size (inb t)) (fun _ => rfl)) fullShare
          (fun j => X ((Rect.unit (s := sh) (off t) size (inb t)).emb j)) : sProp 𝕄)
        ⊢ iprop(∃ X : (Rect.unit (s := sh) (off t) size (inb t)).shape.Idx → Elt F e,
          owns (c : Thread nD τ) (m.slice (Rect.unit (s := sh) (off t) size (inb t)) (fun _ => rfl)) fullShare X) := by
    iintro H
    iexists _; iexact H
  have h (X : sh.Idx → Elt F e) := (split_parts c m off size inb hd hcov X).trans (bigSep_mono fun t _ => hone X t)
  iintro ⟨%X, H⟩
  iapply (h X) $$ H

/-- Parts with contents of their own join. -/
theorem join_parts (X : (t : T) → (Rect.unit (s := sh) (off t) size (inb t)).shape.Idx → Elt F e) (Y : sh.Idx → Elt F e)
    (h : ∀ t j, Y ((Rect.unit (s := sh) (off t) size (inb t)).emb j) = X t j) :
    (bigSep Finset.univ fun t => owns (c : Thread nD τ) (m.slice (Rect.unit (s := sh) (off t) size (inb t)) (fun _ => rfl)) fullShare (X t) : sProp 𝕄)
      ⊢ owns (c : Thread nD τ) m fullShare Y := by
  have hX : X = fun t j => Y ((Rect.unit (s := sh) (off t) size (inb t)).emb j) := funext fun t => funext fun j => (h t j).symm
  subst hX
  exact owns_of_rects (c : Thread nD τ) m fullShare (fun t => Rect.unit (s := sh) (off t) size (inb t)) (fun _ _ => rfl) hd hcov Y

omit hcov in
/-- A family of contents of the parts is the parts of one content. -/
theorem glue (X : (t : T) → (Rect.unit (s := sh) (off t) size (inb t)).shape.Idx → Elt F e) :
    ∃ Y : sh.Idx → Elt F e, ∀ t j, Y ((Rect.unit (s := sh) (off t) size (inb t)).emb j) = X t j := by
  classical
  refine ⟨fun i => if h : ∃ t j, (Rect.unit (s := sh) (off t) size (inb t)).emb j = i then X h.choose h.choose_spec.choose
    else Classical.arbitrary _, fun t j => ?_⟩
  have h : ∃ t' j', (Rect.unit (s := sh) (off t') size (inb t')).emb j' = (Rect.unit (s := sh) (off t) size (inb t)).emb j := ⟨t, j, rfl⟩
  dsimp only
  rw [dif_pos h]
  have e := h.choose_spec.choose_spec
  have key : ∀ (t' : T) (j' : (Rect.unit (s := sh) (off t') size (inb t')).shape.Idx),
      (Rect.unit (s := sh) (off t') size (inb t')).emb j' = (Rect.unit (s := sh) (off t) size (inb t)).emb j → X t' j' = X t j := by
    intro t' j' e
    by_cases ht : t' = t
    · subst ht; rw [(Rect.unit (s := sh) (off t') size (inb t')).emb.injective e]
    · exfalso
      have h1 : (Rect.unit (s := sh) (off t') size (inb t')).emb j' ∈ (Rect.unit (s := sh) (off t') size (inb t')).set := by
        rw [← Rect.map_emb_univ]; exact Finset.mem_map_of_mem _ (Finset.mem_univ _)
      have h2 : (Rect.unit (s := sh) (off t) size (inb t)).emb j ∈ (Rect.unit (s := sh) (off t) size (inb t)).set := by
        rw [← Rect.map_emb_univ]; exact Finset.mem_map_of_mem _ (Finset.mem_univ _)
      exact Finset.disjoint_left.mp (hd t' t ht) h1 (e ▸ h2)
  exact key _ _ e

theorem join_any :
    (bigSep Finset.univ fun t => iprop(∃ X : (Rect.unit (s := sh) (off t) size (inb t)).shape.Idx → Elt F e,
          owns (c : Thread nD τ) (m.slice (Rect.unit (s := sh) (off t) size (inb t)) (fun _ => rfl)) fullShare X) : sProp 𝕄)
      ⊢ iprop(∃ X : sh.Idx → Elt F e, owns (c : Thread nD τ) m fullShare X) := by
  iintro H
  ihave H := (BI.bigSep_exists_pi Finset.univ fun t (X : (Rect.unit (s := sh) (off t) size (inb t)).shape.Idx → Elt F e) =>
    (owns (c : Thread nD τ) (m.slice (Rect.unit (s := sh) (off t) size (inb t)) (fun _ => rfl)) fullShare X : sProp 𝕄)) $$ H
  icases H with ⟨%X, H⟩
  obtain ⟨Y, hY⟩ := glue off size inb hd X
  iexists Y
  iapply (join_parts c m off size inb hd hcov X Y hY) $$ H

end Generic

/-- A squeezed slice held is the slice held, whatever it contains. -/
theorem squeeze_any (c : Dev nD) {sp : Space} {s s' : Shape} {e : EltTy} (M : Memref sig .tc sp s e) (h : s.Squeezes s') :
    iprop(∃ X : s.Idx → Elt F e, owns (c : Thread nD τ) M fullShare X)
      ⊢ (iprop(∃ X : s'.Idx → Elt F e, owns (c : Thread nD τ) (M.squeeze s' h) fullShare X) : sProp 𝕄) := by
  have hS : (M.squeeze s' h).view.set = M.view.set := View.set_reshape (v := M.view) h.numel_eq
  unfold owns
  iintro ⟨%X, %f, %hf, H⟩
  iexists (M.squeeze s' h).view.read (Elt F) f
  iexists f; isplitr
  · ipureintro; rfl
  · rw [hS]; iexact H
theorem unsqueeze_any (c : Dev nD) {sp : Space} {s s' : Shape} {e : EltTy} (M : Memref sig .tc sp s e) (h : s.Squeezes s') :
    iprop(∃ X : s'.Idx → Elt F e, owns (c : Thread nD τ) (M.squeeze s' h) fullShare X)
      ⊢ (iprop(∃ X : s.Idx → Elt F e, owns (c : Thread nD τ) M fullShare X) : sProp 𝕄) := by
  have hS : (M.squeeze s' h).view.set = M.view.set := View.set_reshape (v := M.view) h.numel_eq
  unfold owns
  iintro ⟨%X, %f, %hf, H⟩
  iexists M.view.read (Elt F) f
  iexists f; isplitr
  · ipureintro; rfl
  · rw [← hS]; iexact H

variable (x : Dev nD → Vec F S4096x512 .f32) (w : Dev nD → Vec F S4096x8192 .f32) (c : Dev nD)

/-! ## The accumulator and the result: two halves -/

theorem cols_disjoint (t t' : Fin 2) (h : t ≠ t') : Disjoint (accRect t.val).set (accRect t'.val).set := by
  refine Rect.unit_disjoint 1 ?_
  have : t.val ≠ t'.val := fun e => h (Fin.ext e)
  show t.val % 2 * 4096 + 4096 ≤ t'.val % 2 * 4096 ∨ t'.val % 2 * 4096 + 4096 ≤ t.val % 2 * 4096
  omega
theorem cols_cover : (Finset.univ : Finset (Fin 2)).biUnion (fun t => (accRect t.val).set) = Finset.univ := by
  ext i
  simp only [Finset.mem_biUnion, Finset.mem_univ, true_and, iff_true]
  have h0 : (i 0).val < 512 := (i 0).isLt
  have h1 : (i 1).val < 8192 := (i 1).isLt
  refine ⟨⟨(i 1).val / 4096, by omega⟩, Rect.mem_set_unit.mpr fun a => ?_⟩
  match a with
  | ⟨0, _⟩ => exact ⟨Nat.zero_le _, by show (i 0).val < 0 + 512; omega⟩
  | ⟨1, _⟩ =>
    show (i 1).val / 4096 % 2 * 4096 ≤ (i 1).val ∧ (i 1).val < (i 1).val / 4096 % 2 * 4096 + 4096
    omega

theorem acc_split : (anyB c cc0_scratch4 : sProp 𝕄) ⊢ iprop(half x w c 0 ∗ half x w c 1) :=
  (anyB_owns c cc0_scratch4).trans ((split_any c acc (fun t : Fin 2 => ![0, t.val % 2 * 4096]) S512x4096.size (fun t => acc_inb t.val) cols_disjoint cols_cover).trans
    (Entails.of_eq (bigSep_fin_two _)))
theorem acc_join :
    iprop((∃ X : Vec F S512x4096 .f32, owns (c : Thread nD τ) (accCols 0) fullShare X) ∗ (∃ X : Vec F S512x4096 .f32, owns (c : Thread nD τ) (accCols 1) fullShare X))
      ⊢ (anyB c cc0_scratch4 : sProp 𝕄) := by
  refine (Entails.of_eq (bigSep_fin_two (fun t : Fin 2 => iprop(∃ X : Vec F S512x4096 .f32, owns (c : Thread nD τ) (accCols t.val) fullShare X))).symm).trans ?_
  refine (join_any c acc (fun t : Fin 2 => ![0, t.val % 2 * 4096]) S512x4096.size (fun t => acc_inb t.val) cols_disjoint cols_cover).trans ?_
  iintro ⟨%X, H⟩
  iapply (owns_anyB c cc0_scratch4 X) $$ H
theorem out_split : (anyB c main_v1 : sProp 𝕄) ⊢ iprop((∃ X : Vec F S512x4096 .f32, owns (c : Thread nD τ) (outCols 0) fullShare X)
      ∗ (∃ X : Vec F S512x4096 .f32, owns (c : Thread nD τ) (outCols 1) fullShare X)) :=
  (anyB_owns c main_v1).trans ((split_any c out (fun t : Fin 2 => ![0, t.val % 2 * 4096]) S512x4096.size (fun t => acc_inb t.val) cols_disjoint cols_cover).trans
    (Entails.of_eq (bigSep_fin_two _)))
/-- The two halves out are the result. -/
theorem out_join : iprop(owns (c : Thread nD τ) (outCols 0) fullShare (fin x w c 0) ∗ owns (c : Thread nD τ) (outCols 1) fullShare (fin x w c 1))
      ⊢ (((c : Thread nD τ).loc main_v1) ↦{fullShare} (outV x w c : Buf (Elt F) ((c : Thread nD τ).loc main_v1)) : sProp 𝕄) := by
  refine (Entails.of_eq (bigSep_fin_two (fun t : Fin 2 => (owns (c : Thread nD τ) (outCols t.val) fullShare (fin x w c t.val) : sProp 𝕄))).symm).trans ?_
  refine (join_parts c out (fun t : Fin 2 => ![0, t.val % 2 * 4096]) S512x4096.size (fun t => acc_inb t.val) cols_disjoint cols_cover
    (fun t => fin x w c t.val) (outV x w c) ?_).trans (Entails.of_eq (owns_whole _ _ _ _))
  intro t j
  have h1 : (j 1).val < 4096 := (j 1).isLt
  match t with
  | ⟨0, _⟩ =>
    unfold outV
    rw [dif_pos (show ((Rect.unit (s := S512x8192) ![0, 0 % 2 * 4096] S512x4096.size (acc_inb 0)).emb j 1).val < 4096 by
      show 0 % 2 * 4096 + 1 * (j 1).val < 4096; omega)]
    refine congrArg (fin x w c 0) (funext fun a => Fin.ext ?_)
    match a with
    | ⟨0, _⟩ => show 0 + 1 * (j 0).val = (j 0).val; omega
    | ⟨1, _⟩ => show 0 % 2 * 4096 + 1 * (j 1).val = (j 1).val; omega
  | ⟨1, _⟩ =>
    unfold outV
    rw [dif_neg (show ¬ ((Rect.unit (s := S512x8192) ![0, 1 % 2 * 4096] S512x4096.size (acc_inb 1)).emb j 1).val < 4096 by
      show ¬ 1 % 2 * 4096 + 1 * (j 1).val < 4096; omega)]
    refine congrArg (fin x w c 1) (funext fun a => Fin.ext ?_)
    match a with
    | ⟨0, _⟩ => show 0 + 1 * (j 0).val = (j 0).val; omega
    | ⟨1, _⟩ => show 1 % 2 * 4096 + 1 * (j 1).val - 4096 = (j 1).val; omega

/-! ## The landing slots -/

theorem slots_disjoint (t t' : Fin 7) (h : t ≠ t') : Disjoint (rxRect t).set (rxRect t').set := by
  refine Rect.unit_disjoint 0 ?_
  have : t.val ≠ t'.val := fun e => h (Fin.ext e)
  show t.val + 1 ≤ t'.val ∨ t'.val + 1 ≤ t.val
  omega
theorem slots_cover : (Finset.univ : Finset (Fin 7)).biUnion (fun t => (rxRect t).set) = Finset.univ := by
  ext i
  simp only [Finset.mem_biUnion, Finset.mem_univ, true_and, iff_true]
  have h0 : (i 0).val < 7 := (i 0).isLt
  have h1 : (i 1).val < 512 := (i 1).isLt
  have h2 : (i 2).val < 512 := (i 2).isLt
  refine ⟨⟨(i 0).val, h0⟩, Rect.mem_set_unit.mpr fun a => ?_⟩
  match a with
  | ⟨0, _⟩ => exact ⟨le_refl _, by show (i 0).val < (i 0).val + 1; omega⟩
  | ⟨1, _⟩ => exact ⟨Nat.zero_le _, by show (i 1).val < 0 + 512; omega⟩
  | ⟨2, _⟩ => exact ⟨Nat.zero_le _, by show (i 2).val < 0 + 512; omega⟩

theorem rx_split : (anyB c cc0_scratch1 : sProp 𝕄)
      ⊢ bigSep Finset.univ fun q : Fin 7 => iprop(∃ X : Vec F S512x512 .bf16, owns (c : Thread nD τ) (rxSlot q) fullShare X) :=
  (anyB_owns c cc0_scratch1).trans ((split_any c rx (fun q : Fin 7 => ![q.val, 0, 0]) S1x512x512.size rx_inb slots_disjoint slots_cover).trans
    (bigSep_mono fun q _ => squeeze_any c (rx.slice (rxRect q) (fun _ => rfl)) squeezes_S1x512x512_S512x512))
theorem rx_join : (bigSep Finset.univ fun q : Fin 7 => (recvPay x c q : sProp 𝕄)) ⊢ anyB c cc0_scratch1 := by
  have hone (q : Fin 7) : (recvPay x c q : sProp 𝕄)
      ⊢ iprop(∃ X : S1x512x512.Idx → Elt F .bf16, owns (c : Thread nD τ) (rx.slice (rxRect q) (fun _ => rfl)) fullShare X) := by
    unfold recvPay
    iintro H
    iapply (unsqueeze_any c (rx.slice (rxRect q) (fun _ => rfl)) squeezes_S1x512x512_S512x512)
    iexists _; iexact H
  refine (bigSep_mono fun q _ => hone q).trans ?_
  refine (join_any c rx (fun q : Fin 7 => ![q.val, 0, 0]) S1x512x512.size rx_inb slots_disjoint slots_cover).trans ?_
  iintro ⟨%X, H⟩
  iapply (owns_anyB c cc0_scratch1 X) $$ H

/-! ## The weight staging slots, and the weights' two shares -/

theorem stages_disjoint (t t' : Fin 2) (h : t ≠ t') : Disjoint (wsRect t.val).set (wsRect t'.val).set := by
  refine Rect.unit_disjoint 0 ?_
  have : t.val ≠ t'.val := fun e => h (Fin.ext e)
  show t.val % 2 + 1 ≤ t'.val % 2 ∨ t'.val % 2 + 1 ≤ t.val % 2
  omega
theorem stages_cover : (Finset.univ : Finset (Fin 2)).biUnion (fun t => (wsRect t.val).set) = Finset.univ := by
  ext i
  simp only [Finset.mem_biUnion, Finset.mem_univ, true_and, iff_true]
  have h0 : (i 0).val < 2 := (i 0).isLt
  have h1 : (i 1).val < 512 := (i 1).isLt
  have h2 : (i 2).val < 2048 := (i 2).isLt
  refine ⟨⟨(i 0).val, h0⟩, Rect.mem_set_unit.mpr fun a => ?_⟩
  match a with
  | ⟨0, _⟩ => show (i 0).val % 2 ≤ (i 0).val ∧ (i 0).val < (i 0).val % 2 + 1; omega
  | ⟨1, _⟩ => exact ⟨Nat.zero_le _, by show (i 1).val < 0 + 512; omega⟩
  | ⟨2, _⟩ => exact ⟨Nat.zero_le _, by show (i 2).val < 0 + 2048; omega⟩

theorem ws_split : (anyB c cc0_scratch2 : sProp 𝕄)
      ⊢ iprop((∃ X : Vec F S512x2048 .f32, owns (c : Thread nD τ) (wsSlot 0) fullShare X) ∗ ∃ X : Vec F S512x2048 .f32, owns (c : Thread nD τ) (wsSlot 1) fullShare X) :=
  (anyB_owns c cc0_scratch2).trans ((split_any c ws (fun t : Fin 2 => ![t.val % 2, 0, 0]) S1x512x2048.size (fun t => ws_inb t.val) stages_disjoint stages_cover).trans
    ((bigSep_mono fun t _ => squeeze_any c (ws.slice (wsRect t.val) (fun _ => rfl)) squeezes_S1x512x2048_S512x2048).trans (Entails.of_eq (bigSep_fin_two _))))
theorem ws_join :
    iprop((∃ X : Vec F S512x2048 .f32, owns (c : Thread nD τ) (wsSlot 0) fullShare X) ∗ ∃ X : Vec F S512x2048 .f32, owns (c : Thread nD τ) (wsSlot 1) fullShare X)
      ⊢ (anyB c cc0_scratch2 : sProp 𝕄) := by
  refine (Entails.of_eq (bigSep_fin_two (fun t : Fin 2 => iprop(∃ X : Vec F S512x2048 .f32, owns (c : Thread nD τ) (wsSlot t.val) fullShare X))).symm).trans ?_
  refine (bigSep_mono fun t _ => unsqueeze_any c (ws.slice (wsRect t.val) (fun _ => rfl)) squeezes_S1x512x2048_S512x2048).trans ?_
  refine (join_any c ws (fun t : Fin 2 => ![t.val % 2, 0, 0]) S1x512x2048.size (fun t => ws_inb t.val) stages_disjoint stages_cover).trans ?_
  iintro ⟨%X, H⟩
  iapply (owns_anyB c cc0_scratch2 X) $$ H

/-- The weights as the body holds them. -/
def wPts : sProp 𝕄 := ((c : Thread nD τ).loc main_arg1) ↦{fullShare} (w c : Buf (Elt F) ((c : Thread nD τ).loc main_arg1))

theorem idle_split : iprop(wPts w c ∗ anyB c cc0_scratch2 ∗ semVal ((c : Thread nD τ), .dma (wSem 0)) 0 ∗ semVal ((c : Thread nD τ), .dma (wSem 1)) 0)
      ⊢ (iprop(idle w c 0 ∗ idle w c 1) : sProp 𝕄) := by
  unfold wPts idle
  iintro ⟨Hw, Hs, H0, H1⟩
  ihave Hw := (pointsTo_share (PosShare.mem_left_op_right fullShare)).1 $$ Hw
  icases Hw with ⟨Hl, Hr⟩
  ihave Hs := (ws_split c) $$ Hs
  icases Hs with ⟨Hs0, Hs1⟩
  isplitl [Hl Hs0 H0]
  · isplitl [Hl]; · iexact Hl
    isplitl [Hs0] <;> iassumption
  · isplitl [Hr]; · iexact Hr
    isplitl [Hs1] <;> iassumption
theorem idle_join : (iprop(idle w c 0 ∗ idle w c 1) : sProp 𝕄)
      ⊢ iprop(wPts w c ∗ anyB c cc0_scratch2 ∗ semVal ((c : Thread nD τ), .dma (wSem 0)) 0 ∗ semVal ((c : Thread nD τ), .dma (wSem 1)) 0) := by
  unfold wPts idle
  iintro ⟨⟨Hl, Hs0, H0⟩, ⟨Hr, Hs1, H1⟩⟩
  isplitl [Hl Hr]
  · iapply (pointsTo_share (PosShare.mem_left_op_right fullShare)).2
    isplitl [Hl]; · iexact Hl
    iexact Hr
  isplitl [Hs0 Hs1]
  · iapply (ws_join c)
    isplitl [Hs0] <;> iassumption
  isplitl [H0] <;> iassumption

/-! ## The narrowed activations -/

theorem blocks_disjoint (t t' : Dev nD) (h : t ≠ t') : Disjoint (xbRect t).set (xbRect t').set := by
  refine Rect.unit_disjoint 0 ?_
  have : t.val ≠ t'.val := fun e => h (Fin.ext e)
  show 512 * t.val + 512 ≤ 512 * t'.val ∨ 512 * t'.val + 512 ≤ 512 * t.val
  omega
theorem blocks_cover : (Finset.univ : Finset (Dev nD)).biUnion (fun t => (xbRect t).set) = Finset.univ := by
  ext i
  simp only [Finset.mem_biUnion, Finset.mem_univ, true_and, iff_true]
  have h0 : (i 0).val < 4096 := (i 0).isLt
  have h1 : (i 1).val < 512 := (i 1).isLt
  refine ⟨⟨(i 0).val / 512, by show _ < 8; omega⟩, Rect.mem_set_unit.mpr fun a => ?_⟩
  match a with
  | ⟨0, _⟩ => show 512 * ((i 0).val / 512) ≤ (i 0).val ∧ (i 0).val < 512 * ((i 0).val / 512) + 512; omega
  | ⟨1, _⟩ => exact ⟨Nat.zero_le _, by show (i 1).val < 0 + 512; omega⟩

/-- The devices are this one and its seven peers. -/
theorem around (Φ : Dev nD → sProp 𝕄) : bigSep Finset.univ Φ = iprop(Φ c ∗ bigSep Finset.univ fun q : Fin 7 => Φ (pr c q)) := by
  have hinj : Function.Injective (pr c) := by revert c; decide
  rw [show (Finset.univ : Finset (Dev nD)) = insert c (Finset.univ.map ⟨pr c, hinj⟩) by
      ext d; simp only [Finset.mem_univ, Finset.mem_insert, Finset.mem_map, Function.Embedding.coeFn_mk, true_and, true_iff]; revert c d; decide,
    bigSep_insert (by simp only [Finset.mem_map, Finset.mem_univ, Function.Embedding.coeFn_mk, true_and]; revert c; decide), bigSep_map]
  rfl

theorem xb_split : (owns (c : Thread nD τ) xb fullShare (xbv x c) : sProp 𝕄)
      ⊢ iprop(owns (c : Thread nD τ) (xbOwn c) fullShare (xrow x c c) ∗ bigSep Finset.univ fun q : Fin 7 => sendPay x c q) := by
  refine (split_parts c xb (fun k : Dev nD => ![512 * k.val, 0]) S512x512.size blk_inb blocks_disjoint blocks_cover (xbv x c)).trans ?_
  rw [around c]
  unfold sendPay
  rw [xbOwn_eq]
  simp only [xbRows_eq]
  exact Entails.refl _
theorem xb_join : iprop(owns (c : Thread nD τ) (xbOwn c) fullShare (xrow x c c) ∗ bigSep Finset.univ fun q : Fin 7 => sendPay x c q)
      ⊢ (anyB c cc0_scratch0 : sProp 𝕄) := by
  refine BIBase.Entails.trans ?_ ((join_parts c xb (fun k : Dev nD => ![512 * k.val, 0]) S512x512.size blk_inb blocks_disjoint blocks_cover
    (fun k => xrow x c k) (xbv x c) (fun _ _ => rfl)).trans (owns_anyB c cc0_scratch0 _))
  rw [around c]
  unfold sendPay
  rw [xbOwn_eq]
  simp only [xbRows_eq]
  exact Entails.refl _

end Cert.KernelIdeal.Gemm

end
-- ==== Proof.Body.lean ====
module

public import proofs.«01_k».proof.Proof.Split

/-!
# The body

What one device's body needs and leaves, from the steps in their order.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

variable (x : Dev nD → Vec F S4096x512 .f32) (w : Dev nD → Vec F S4096x8192 .f32) (K : Dev nD × Fin 16 → ℕ) (c : Dev nD)

/-! ## Families over a device's cells -/

theorem sK_inj : Function.Injective sK := by decide
theorem rK_inj : Function.Injective rK := by decide

/-- A family over a device's sixteen cells, by what the cells are for. -/
theorem sixteen (G : GSem nD τ sig → sProp 𝕄) :
    (bigSep Finset.univ fun k : Fin 16 => G (kcell (c, k)))
      = iprop(G (barCell c) ∗ G (exitCell c) ∗ (bigSep Finset.univ fun q : Fin 7 => G (sendCell c q)) ∗ bigSep Finset.univ fun q : Fin 7 => G (recvCell c q)) := by
  have hs (q : Fin 7) : G (kcell (c, sK q)) = G (sendCell c q) := by dsimp only [kcell]; rw [csem_send]
  have hr (q : Fin 7) : G (kcell (c, rK q)) = G (recvCell c q) := by dsimp only [kcell]; rw [csem_recv]
  rw [show (Finset.univ : Finset (Fin 16)) = insert 0 (insert 1 (Finset.univ.map ⟨sK, sK_inj⟩ ∪ Finset.univ.map ⟨rK, rK_inj⟩)) by decide,
    bigSep_insert (by decide), bigSep_insert (by decide), bigSep_union (by decide), bigSep_map, bigSep_map,
    ← bigSep_congr (s := Finset.univ) (fun q _ => hs q), ← bigSep_congr (s := Finset.univ) (fun q _ => hr q)]
  rfl

/-- Every cell of a device, its round over, is closed. -/
theorem close_all : iprop(records x K ∗ bigSep Finset.univ fun k : Fin 16 => atPos ER (kcell (c, k)) 1 ∅ 0)
    ⊢ iprop(|={Set.univ}=> bigSep Finset.univ fun k : Fin 16 => semVal (kcell (c, k)) 0) :=
  (bigSep_with (R := records x K) fun k _ => close_cell x K (c, k)).trans (bigSep_fupd _ _)

def rvE : Fin 7 ≃ Fin 7 := ⟨rv, rv, rv_rv, rv_rv⟩

/-- The tokens of the duties device `c` pays. -/
def payToks : sProp 𝕄 :=
  iprop((bigSep Finset.univ fun q : Fin 7 => dutyTok ER (barCell (pr c q)) 0 (rv q)) ∗ (bigSep Finset.univ fun q : Fin 7 => dutyTok ER (exitCell (pr c q)) 0 (rv q))
    ∗ (bigSep Finset.univ fun q : Fin 7 => dutyTok ER (sendCell c q) 0 0) ∗ bigSep Finset.univ fun q : Fin 7 => dutyTok ER (recvCell (pr c q) q) 0 0)

/-! ## Narrowing the activations -/

def xPts : sProp 𝕄 := ((c : Thread nD τ).loc cc0_stg0_0) ↦{fullShare} (x c : Buf (Elt F) ((c : Thread nD τ).loc cc0_stg0_0))

theorem hz2 : (![0, 0] : Fin 2 → ℕ) = fun _ => 0 := funext fun a => by fin_cases a <;> rfl

theorem narrowX_spec : iprop(xPts x c ∗ anyB c cc0_scratch0)
    ⊢ run c (narrowX (F := F)) fun _ => iprop(xPts x c ∗ owns (c : Thread nD τ) xb fullShare (xbv x c)) := by
  unfold narrowX run xPts anyB
  simp only [Prog.lift, Prog.bind_op, Prog.bind_ret]
  iintro ⟨Hx, ⟨%f, Hb⟩⟩
  iapply (wp_load 𝒱₀ (c : Thread nD τ) none Set.univ (m := xIn) (Finset.subset_univ _)) $$ Hx; iintro Hx
  iapply (wp_load 𝒱₀ (c : Thread nD τ) none Set.univ (m := xb) (Finset.subset_univ _)) $$ Hb; iintro Hb
  iapply (wp_store 𝒱₀ (c : Thread nD τ) none Set.univ (m := xb)
    (r := Rect.unit (s := S4096x512) ![0, 0] S4096x512.size inb_S4096x512_S4096x512_0_0) (Mk := Finset.univ) (Finset.subset_univ _)) $$ Hb; iintro Hb
  iapply run_ret
  isplitl [Hx]; · iexact Hx
  have hr : View.readAt (Elt F) xIn.view (Rect.unit (s := S4096x512) ![0, 0] S4096x512.size inb_S4096x512_S4096x512_0_0).toLoadRect (x c) = x c :=
    Memref.readAt_unit_zero (Elt F) cc0_stg0_0 hz2 _ (x c)
  have hw (v : Vec F S4096x512 .bf16) : View.write (Elt F) (xb.access (Rect.unit (s := S4096x512) ![0, 0] S4096x512.size inb_S4096x512_S4096x512_0_0)) f v Finset.univ = v :=
    Memref.write_access_unit_zero_univ (Elt F) cc0_scratch0 hz2 _ f v
  rw [owns_whole, hw, hr]
  iexact Hb

/-! ## Rounds -/

/-- What the multiplications carry when the rows of peer `n` are next. -/
def Rst (n : ℕ) : sProp 𝕄 := Mst x w c (2 * n + 2) (2 * (2 * n + 2) + 4)

theorem round_spec (q : Fin 7) (hq : q.val < 6) :
    iprop(iprop(records x K ∗ levAts L lv) ∗ Rst x w c q.val ∗ (cred (tallyAt (recvCell c q) () N) ∗ atPos ER (recvCell c q) 0 ∅ 0))
      ⊢ run c (round (F := F) c q) fun _ => iprop(Rst x w c (q.val + 1) ∗ (atPos ER (recvCell c q) 1 ∅ 0 ∗ recvPay x c q)) := by
  obtain ⟨s, hs⟩ : ∃ s, s = 2 * q.val := ⟨_, rfl⟩
  have hq0 : qOf (s + 2) = q := Fin.ext (by show ((s + 2) / 2 - 1) % 7 = q.val; omega)
  have hq1 : qOf (s + 1 + 2) = q := Fin.ext (by show ((s + 1 + 2) / 2 - 1) % 7 = q.val; omega)
  have hp : round (F := F) c q = recvQ q >>= fun _ => dotRx q (s + 2) >>= fun _ => refill c (s + 2) >>= fun _ =>
      dotRx q (s + 1 + 2) >>= fun _ => refill c (s + 1 + 2) >>= fun a => Prog.ret a := by
    unfold round
    rw [show 2 * (q.val + 1) = s + 2 by omega, show s + 2 + 1 = s + 1 + 2 by omega]
    exact congrArg _ (funext fun _ => congrArg _ (funext fun _ => congrArg _ (funext fun _ => congrArg _ (funext fun _ => (bind_pure _).symm))))
  have e0 : (Rst x w c q.val : sProp 𝕄) = Mst x w c (s + 2) (2 * (s + 2) + 4) := by unfold Rst; rw [hs]
  have e1 : (Rst x w c (q.val + 1) : sProp 𝕄) = Mst x w c (s + 1 + 2 + 1) (2 * (s + 1 + 2 + 1) + 4) := by
    unfold Rst; rw [hs, show 2 * (q.val + 1) + 2 = 2 * q.val + 1 + 2 + 1 by omega]
  have e2 : (Mst x w c (s + 2 + 1) (2 * (s + 2 + 1) + 4) : sProp 𝕄) = Mst x w c (s + 1 + 2) (2 * (s + 1 + 2) + 4) := by
    rw [show s + 2 + 1 = s + 1 + 2 by omega]
  have hopen : (Mst x w c (s + 2) (2 * (s + 2) + 4) : sProp 𝕄)
      = iprop(Wst w c (2 * (s + 2) + 4) ∗ (half x w c (s + 2) ∗ half x w c (s + 2 + 1)) ∗ ow c (owe c 7 7 0)) := rfl
  rw [hp, e0, e1, hopen]
  iintro ⟨⟨#HR, #Hlev⟩, ⟨HW, Hh, HO⟩, Hc, Ha⟩
  iapply (run_step (recvQ_spec x K c q)) $$ [HO Hc Ha]
  · isplitr; · iexact HR
    isplitr; · iexact Hlev
    isplitl [HO]; · iexact HO
    isplitl [Hc] <;> iassumption
  iintro ⟨HO, Ha, Hp⟩
  unfold recvPay
  iapply (stepRx_spec x w c q s hq0 (by omega)) $$ [HW Hh HO Hp]
  · isplitr; · iexact Hlev
    isplitl [Hp]; · iexact Hp
    unfold Mst
    isplitl [HW]; · iexact HW
    isplitl [Hh] <;> iassumption
  iintro ⟨Hp, HM⟩
  ihave HM := (Entails.of_eq e2) $$ HM
  iapply (stepRx_spec x w c q (s + 1) hq1 (by omega)) $$ [HM Hp]
  · isplitr; · iexact Hlev
    isplitl [Hp] <;> iassumption
  iintro ⟨Hp, HM⟩
  iapply run_ret
  isplitl [HM]; · iexact HM
  isplitl [Ha] <;> iassumption

/-! ## What the body needs and leaves -/

/-- The counters of the device's own copies: two weight staging slots, two halves of the result. -/
def locals0 : sProp 𝕄 :=
  iprop(semVal ((c : Thread nD τ), .dma (wSem 0)) 0 ∗ semVal ((c : Thread nD τ), .dma (wSem 1)) 0
    ∗ semVal ((c : Thread nD τ), .dma (outSem 0)) 0 ∗ semVal ((c : Thread nD τ), .dma (outSem 1)) 0)

/-- The body's buffers of the core, whatever they contain. -/
def scratches : sProp 𝕄 :=
  iprop(anyB c cc0_scratch0 ∗ anyB c cc0_scratch1 ∗ anyB c cc0_scratch2 ∗ anyB c cc0_scratch3 ∗ anyB c cc0_scratch4)

/-- The credits a device waits with. -/
def credits : sProp 𝕄 :=
  iprop(cred (tallyAt (barCell c) () 7) ∗ cred (tallyAt (exitCell c) () 7) ∗ bigSep Finset.univ fun q : Fin 7 => cred (tallyAt (recvCell c q) () N))

/-- The result written. -/
def outPts : sProp 𝕄 := ((c : Thread nD τ).loc main_v1) ↦{fullShare} (outV x w c : Buf (Elt F) ((c : Thread nD τ).loc main_v1))

/-- What device `c` brings beside its buffers: it stands before the first round of each of its cells, with the tokens of what it
    pays, its credits and its own copies' counters. -/
def linear : sProp 𝕄 :=
  iprop((bigSep Finset.univ fun k : Fin 16 => atPos ER (kcell (c, k)) 0 ∅ 0) ∗ payToks c ∗ locals0 c)

theorem slotSt_end (h : Fin 2) : (slotSt w c (32 + h.val) : sProp 𝕄) = idle w c h.val := by
  have key : ∀ n : ℕ, (idle w c (h.val + 2 * n) : sProp 𝕄) = idle w c h.val := by
    intro n
    induction n with
    | zero => rfl
    | succ n ih => rw [show h.val + 2 * (n + 1) = h.val + 2 * n + 2 by omega, idle_add_two, ih]
  unfold slotSt
  rw [if_neg (by omega), show 32 + h.val = h.val + 2 * 16 by omega, key]

theorem Wst_begin : iprop(anyB c cc0_scratch3 ∗ flying w c 0 ∗ flying w c 1) ⊢ (Wst w c 0 : sProp 𝕄) := by
  unfold Wst WbAt anyB slotSt
  rw [if_pos (by decide), if_pos (by decide)]
  iintro ⟨⟨%f, Hf⟩, H0, H1⟩
  isplitl [Hf]
  · iexists f; isplitr
    · ipureintro; intro u hu; exact absurd hu (Nat.not_lt_zero u)
    · iexact Hf
  isplitl [H0] <;> iassumption
theorem Wst_end : (Wst w c 32 : sProp 𝕄) ⊢ iprop(anyB c cc0_scratch3 ∗ wPts w c ∗ anyB c cc0_scratch2
    ∗ semVal ((c : Thread nD τ), .dma (wSem 0)) 0 ∗ semVal ((c : Thread nD τ), .dma (wSem 1)) 0) := by
  have h0 : (slotSt w c 32 : sProp 𝕄) = idle w c 0 := slotSt_end w c 0
  have h1 : (slotSt w c (32 + 1) : sProp 𝕄) = idle w c 1 := slotSt_end w c 1
  unfold Wst WbAt
  rw [h0, h1]
  iintro ⟨⟨%f, -, Hf⟩, Hi⟩
  isplitl [Hf]
  · unfold anyB; iexists f; iexact Hf
  · iapply (idle_join w c); iexact Hi

/-- The landing slots in the order in which the peers are told of them. -/
theorem rx_split' : (anyB c cc0_scratch1 : sProp 𝕄)
      ⊢ bigSep Finset.univ fun q : Fin 7 => iprop(∃ X : Vec F S512x512 .bf16, owns (c : Thread nD τ) (rxSlot (rv q)) fullShare X) :=
  (rx_split c).trans (Entails.of_eq (bigSep_univ_equiv rvE _))

/-- The first part: the barrier passed, the rows sent. -/
theorem part1 {α : Type} {k : PUnit → P F α} {Q : α → sProp 𝕄} :
    iprop(iprop(records x K ∗ levAts L lv)
        ∗ (idle w c 0 ∗ xPts x c ∗ anyB c cc0_scratch0 ∗ anyB c cc0_scratch1)
        ∗ (payToks c ∗ cred (tallyAt (barCell c) () 7) ∗ atPos ER (barCell c) 0 ∅ 0)
        ∗ ow c (owe c 0 0 0))
      ⊢ iprop((iprop((flying w c 0 ∗ xPts x c ∗ owns (c : Thread nD τ) (xbOwn c) fullShare (xrow x c c))
          ∗ ((bigSep Finset.univ fun q : Fin 7 => cred (tallyAt (sendCell c q) () N))
            ∗ (bigSep Finset.univ fun q : Fin 7 => dutyTok ER (exitCell (pr c q)) 0 (rv q)) ∗ atPos ER (barCell c) 1 ∅ 0)
          ∗ ow c (owe c 7 7 0)) -∗ run c (k ⟨⟩) Q)
        -∗ run c (startU (F := F) c 0 >>= fun _ => narrowX >>= fun _ => peers (signalB c) >>= fun _ => semWaitWord barSem 7#32 >>= fun _ => peers (sendQ c) >>= k) Q) := by
  have hB : iprop(records x K ∗ ow c (owe c 0 0 0)
      ∗ bigSep Finset.univ fun q : Fin 7 => iprop(dutyTok ER (barCell (pr c q)) 0 (rv q) ∗ ∃ X : Vec F S512x512 .bf16, owns (c : Thread nD τ) (rxSlot (rv q)) fullShare X))
      ⊢ run c (peers (signalB (F := F) c)) fun _ => iprop(ow c (owe c 7 0 0) ∗ bigSep Finset.univ fun _ : Fin 7 => iprop(emp)) :=
    peers_spec c (St := fun n => ow c (owe c n 0 0)) (fun q => signalB_spec x K c q)
  have hS : iprop(records x K ∗ ow c (owe c 7 0 0)
      ∗ bigSep Finset.univ fun q : Fin 7 => iprop(sendPay x c q ∗ barPay c q ∗ dutyTok ER (sendCell c q) 0 0 ∗ dutyTok ER (recvCell (pr c q) q) 0 0))
      ⊢ run c (peers (sendQ (F := F) c)) fun _ => iprop(ow c (owe c 7 7 0) ∗ bigSep Finset.univ fun q : Fin 7 => cred (tallyAt (sendCell c q) () N)) :=
    peers_spec c (St := fun n => ow c (owe c 7 n 0)) (fun q => sendQ_spec x K c q)
  rw [bigSep_sep'] at hB
  rw [bigSep_sep', bigSep_sep', bigSep_sep'] at hS
  unfold payToks
  iintro ⟨⟨#HR, #Hlev⟩, ⟨Hi, Hx, Hb, Hr⟩, ⟨⟨HtB, HtE, HtS, HtV⟩, Hc, Ha⟩, HO⟩ Hk
  iapply (run_step (startU_spec w c 0)) $$ Hi
  iintro Hf
  iapply (run_step (narrowX_spec x c)) $$ [Hx Hb]
  · isplitl [Hx] <;> iassumption
  iintro ⟨Hx, Hb⟩
  ihave Hr := (rx_split' c) $$ Hr
  iapply (run_step hB) $$ [HO HtB Hr]
  · isplitr; · iexact HR
    isplitl [HO]; · iexact HO
    isplitl [HtB] <;> iassumption
  iintro ⟨HO, -⟩
  iapply (run_step (waitB_spec x K c)) $$ [HO Hc Ha]
  · isplitr; · iexact HR
    isplitr; · iexact Hlev
    isplitl [HO]; · iexact HO
    isplitl [Hc] <;> iassumption
  iintro ⟨HO, Ha, Hp⟩
  ihave Hb := (xb_split x c) $$ Hb
  icases Hb with ⟨Ho, Hb⟩
  iapply (run_step hS) $$ [HO HtS HtV Hb Hp]
  · isplitr; · iexact HR
    isplitl [HO]; · iexact HO
    isplitl [Hb]; · iexact Hb
    isplitl [Hp]; · iexact Hp
    isplitl [HtS] <;> iassumption
  iintro ⟨HO, HcS⟩
  iapply Hk
  isplitl [Hf Hx Ho]
  · isplitl [Hf]; · iexact Hf
    isplitl [Hx] <;> iassumption
  isplitr [HO]
  · isplitl [HcS]; · iexact HcS
    isplitl [HtE] <;> iassumption
  · iexact HO

/-- The second part: the weights begun, and the two multiplications with the device's own rows. -/
theorem part2 {α : Type} {k : PUnit → P F α} {Q : α → sProp 𝕄} :
    iprop(levAts L lv ∗ (flying w c 0 ∗ idle w c 1 ∗ anyB c cc0_scratch3 ∗ anyB c cc0_scratch4)
        ∗ owns (c : Thread nD τ) (xbOwn c) fullShare (xrow x c c) ∗ ow c (owe c 7 7 0))
      ⊢ iprop((iprop(owns (c : Thread nD τ) (xbOwn c) fullShare (xrow x c c) ∗ Rst x w c 0) -∗ run c (k ⟨⟩) Q)
        -∗ run c (startU (F := F) c 1 >>= fun _ => pumpU c 0 >>= fun _ => pumpU c 1 >>= fun _ => pumpU c 2 >>= fun _ => pumpU c 3 >>= fun _ =>
          dotOwn c 0 >>= fun _ => refill c 0 >>= fun _ => dotOwn c 1 >>= fun _ => refill c 1 >>= k) Q) := by
  iintro ⟨#Hlev, ⟨Hf, Hi, Hwb, Hacc⟩, Ho, HO⟩ Hk
  iapply (run_step (startU_spec w c 1)) $$ Hi
  iintro Hg
  ihave HW := (Wst_begin w c) $$ [Hf Hg Hwb]
  · isplitl [Hwb]; · iexact Hwb
    isplitl [Hf] <;> iassumption
  iapply (run_step (pumpU_spec w c 0 7 7 0 (by decide))) $$ [HW HO]
  · isplitr; · iexact Hlev
    isplitl [HW] <;> iassumption
  iintro ⟨HW, HO⟩
  iapply (run_step (pumpU_spec w c 1 7 7 0 (by decide))) $$ [HW HO]
  · isplitr; · iexact Hlev
    isplitl [HW] <;> iassumption
  iintro ⟨HW, HO⟩
  iapply (run_step (pumpU_spec w c 2 7 7 0 (by decide))) $$ [HW HO]
  · isplitr; · iexact Hlev
    isplitl [HW] <;> iassumption
  iintro ⟨HW, HO⟩
  iapply (run_step (pumpU_spec w c 3 7 7 0 (by decide))) $$ [HW HO]
  · isplitr; · iexact Hlev
    isplitl [HW] <;> iassumption
  iintro ⟨HW, HO⟩
  ihave Hacc := (acc_split x w c) $$ Hacc
  iapply (stepOwn_spec x w c 0 (by decide)) $$ [HW HO Hacc Ho]
  · isplitr; · iexact Hlev
    isplitl [Ho]; · iexact Ho
    unfold Mst
    isplitl [HW]; · iexact HW
    isplitl [Hacc] <;> iassumption
  iintro ⟨Ho, HM⟩
  iapply (stepOwn_spec x w c 1 (by decide)) $$ [HM Ho]
  · isplitr; · iexact Hlev
    isplitl [Ho] <;> iassumption
  iintro ⟨Ho, HM⟩
  iapply Hk
  isplitl [Ho]; · iexact Ho
  unfold Rst; iexact HM

end Cert.KernelIdeal.Gemm

end
-- ==== Proof.Whole.lean ====
module

public import proofs.«01_k».proof.Proof.Body

/-!
# The body, whole

The later parts of one device's body, and all of it: from the state after the launch to the result written, every buffer
back and every counter at zero.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

variable (x : Dev nD → Vec F S4096x512 .f32) (w : Dev nD → Vec F S4096x8192 .f32) (K : Dev nD × Fin 16 → ℕ) (c : Dev nD)

/-- A family over the peers from its members. -/
theorem seven_intro (T : Fin 7 → sProp 𝕄) : iprop(T 0 ∗ T 1 ∗ T 2 ∗ T 3 ∗ T 4 ∗ T 5 ∗ T 6) ⊢ bigSep Finset.univ T := Entails.of_eq (seven T).symm

/-- The third part: the multiplications with the rows of the first six peers, and the seventh's rows awaited. -/
theorem part3 {α : Type} {k : PUnit → P F α} {Q : α → sProp 𝕄} :
    iprop(iprop(records x K ∗ levAts L lv) ∗ Rst x w c 0
        ∗ bigSep Finset.univ fun q : Fin 7 => iprop(cred (tallyAt (recvCell c q) () N) ∗ atPos ER (recvCell c q) 0 ∅ 0))
      ⊢ iprop((iprop(Rst x w c 6 ∗ bigSep Finset.univ fun q : Fin 7 => iprop(atPos ER (recvCell c q) 1 ∅ 0 ∗ recvPay x c q)) -∗ run c (k ⟨⟩) Q)
        -∗ run c (round (F := F) c 0 >>= fun _ => round c 1 >>= fun _ => round c 2 >>= fun _ => round c 3 >>= fun _ => round c 4 >>= fun _ =>
          round c 5 >>= fun _ => recvQ 6 >>= k) Q) := by
  have h (q : Fin 7) (n n' : ℕ) (hn : q.val = n) (hn' : n + 1 = n') (hq : n < 6) :
      iprop(iprop(records x K ∗ levAts L lv) ∗ Rst x w c n ∗ (cred (tallyAt (recvCell c q) () N) ∗ atPos ER (recvCell c q) 0 ∅ 0))
        ⊢ run c (round (F := F) c q) fun _ => iprop(Rst x w c n' ∗ (atPos ER (recvCell c q) 1 ∅ 0 ∗ recvPay x c q)) := by
    subst hn' hn; exact round_spec x w K c q hq
  rw [seven]
  iintro ⟨#HR, HM, T0, T1, T2, T3, T4, T5, T6⟩ Hk
  iapply (run_step (h 0 0 1 rfl rfl (by decide))) $$ [HM T0]
  · isplitr; · iexact HR
    isplitl [HM] <;> iassumption
  iintro ⟨HM, T0⟩
  iapply (run_step (h 1 1 2 rfl rfl (by decide))) $$ [HM T1]
  · isplitr; · iexact HR
    isplitl [HM] <;> iassumption
  iintro ⟨HM, T1⟩
  iapply (run_step (h 2 2 3 rfl rfl (by decide))) $$ [HM T2]
  · isplitr; · iexact HR
    isplitl [HM] <;> iassumption
  iintro ⟨HM, T2⟩
  iapply (run_step (h 3 3 4 rfl rfl (by decide))) $$ [HM T3]
  · isplitr; · iexact HR
    isplitl [HM] <;> iassumption
  iintro ⟨HM, T3⟩
  iapply (run_step (h 4 4 5 rfl rfl (by decide))) $$ [HM T4]
  · isplitr; · iexact HR
    isplitl [HM] <;> iassumption
  iintro ⟨HM, T4⟩
  iapply (run_step (h 5 5 6 rfl rfl (by decide))) $$ [HM T5]
  · isplitr; · iexact HR
    isplitl [HM] <;> iassumption
  iintro ⟨HM, T5⟩
  unfold Rst Mst
  icases HM with ⟨HW, Hh, HO⟩
  icases HR with ⟨#HR, #Hlev⟩
  icases T6 with ⟨Hc, Ha⟩
  iapply (run_step (recvQ_spec x K c 6)) $$ [HO Hc Ha]
  · isplitr; · iexact HR
    isplitr; · iexact Hlev
    isplitl [HO]; · iexact HO
    isplitl [Hc] <;> iassumption
  iintro ⟨HO, T6⟩
  iapply Hk
  isplitl [HW Hh HO]
  · isplitl [HW]; · iexact HW
    isplitl [Hh] <;> iassumption
  iapply (seven_intro (F := F) fun q : Fin 7 => iprop(atPos ER (recvCell c q) 1 ∅ 0 ∗ recvPay x c q))
  isplitl [T0]; · iexact T0
  isplitl [T1]; · iexact T1
  isplitl [T2]; · iexact T2
  isplitl [T3]; · iexact T3
  isplitl [T4]; · iexact T4
  isplitl [T5]; · iexact T5
  iexact T6

/-- The fourth part: the last two multiplications, the activation function, and the result out. -/
theorem part4 {α : Type} {k : PUnit → P F α} {Q : α → sProp 𝕄} :
    iprop(levAts L lv ∗ Rst x w c 6 ∗ recvPay x c 6 ∗ anyB c main_v1
        ∗ semVal ((c : Thread nD τ), .dma (outSem 0)) 0 ∗ semVal ((c : Thread nD τ), .dma (outSem 1)) 0)
      ⊢ iprop((iprop(Wst w c 32 ∗ anyB c cc0_scratch4 ∗ outPts x w c ∗ recvPay x c 6
          ∗ (semVal ((c : Thread nD τ), .dma (outSem 0)) 0 ∗ semVal ((c : Thread nD τ), .dma (outSem 1)) 0) ∗ ow c (owe c 7 7 0)) -∗ run c (k ⟨⟩) Q)
        -∗ run c (dotRx (F := F) 6 14 >>= fun _ => finish 0 >>= fun _ => dotRx 6 15 >>= fun _ => finish 1 >>= fun _ => outWait 0 >>= fun _ =>
          outWait 1 >>= k) Q) := by
  have hM : (Rst x w c 6 : sProp 𝕄) = iprop((WbAt w c 32 ∗ slotSt w c 32 ∗ slotSt w c (32 + 1)) ∗ (half x w c 14 ∗ half x w c 15) ∗ ow c (owe c 7 7 0)) := rfl
  rw [hM]
  have hq : pl c 6 = pl c 6 := rfl
  have d0 : iprop(recvPay x c 6 ∗ WbAt w c 32 ∗ half x w c 14) ⊢ run c (dotRx (F := F) 6 14) fun _ => iprop(recvPay x c 6 ∗ WbAt w c 32 ∗ half x w c (16 + 0)) :=
    dotRx_spec x w c 6 12 32 (by decide) (by decide) (by decide)
  have d1 : iprop(recvPay x c 6 ∗ WbAt w c 32 ∗ half x w c 15) ⊢ run c (dotRx (F := F) 6 15) fun _ => iprop(recvPay x c 6 ∗ WbAt w c 32 ∗ half x w c (16 + 1)) :=
    dotRx_spec x w c 6 13 32 (by decide) (by decide) (by decide)
  iintro ⟨#Hlev, ⟨⟨HW, Hs⟩, ⟨Ha, Hb⟩, HO⟩, Hp, Hout, Hv0, Hv1⟩ Hk
  ihave Hout := (out_split c) $$ Hout
  icases Hout with ⟨Ho0, Ho1⟩
  iapply (run_step d0) $$ [Hp HW Ha]
  · isplitl [Hp]; · iexact Hp
    isplitl [HW] <;> iassumption
  iintro ⟨Hp, HW, Ha⟩
  iapply (run_step (finish_spec x w c 0)) $$ [Ha Ho0 Hv0]
  · isplitl [Ha]; · iexact Ha
    isplitl [Ho0] <;> iassumption
  iintro Hf0
  iapply (run_step d1) $$ [Hp HW Hb]
  · isplitl [Hp]; · iexact Hp
    isplitl [HW] <;> iassumption
  iintro ⟨Hp, HW, Hb⟩
  iapply (run_step (finish_spec x w c 1)) $$ [Hb Ho1 Hv1]
  · isplitl [Hb]; · iexact Hb
    isplitl [Ho1] <;> iassumption
  iintro Hf1
  iapply (run_step (outWait_spec x w c 0 7 7 0)) $$ [Hf0 HO]
  · isplitr; · iexact Hlev
    isplitl [Hf0] <;> iassumption
  iintro ⟨Ho0, Ha, Hv0, HO⟩
  iapply (run_step (outWait_spec x w c 1 7 7 0)) $$ [Hf1 HO]
  · isplitr; · iexact Hlev
    isplitl [Hf1] <;> iassumption
  iintro ⟨Ho1, Hb, Hv1, HO⟩
  iapply Hk
  isplitl [HW Hs]
  · unfold Wst
    isplitl [HW] <;> iassumption
  isplitl [Ha Hb]
  · iapply (acc_join c)
    isplitl [Ha] <;> iassumption
  isplitl [Ho0 Ho1]
  · unfold outPts
    iapply (out_join x w c)
    isplitl [Ho0] <;> iassumption
  isplitl [Hp]; · iexact Hp
  isplitl [Hv0 Hv1]
  · isplitl [Hv0] <;> iassumption
  iexact HO

/-- The last part: the transfers have left, and every device is done. -/
theorem part5 :
    iprop(iprop(records x K ∗ levAts L lv)
        ∗ (bigSep Finset.univ fun q : Fin 7 => iprop(cred (tallyAt (sendCell c q) () N) ∗ atPos ER (sendCell c q) 0 ∅ 0))
        ∗ (bigSep Finset.univ fun q : Fin 7 => dutyTok ER (exitCell (pr c q)) 0 (rv q))
        ∗ (cred (tallyAt (exitCell c) () 7) ∗ atPos ER (exitCell c) 0 ∅ 0) ∗ ow c (owe c 7 7 0))
      ⊢ run c (peers (sentQ (F := F) c) >>= fun _ => peers (signalE c) >>= fun _ => semWaitWord exitSem 7#32) fun _ =>
        iprop((bigSep Finset.univ fun q : Fin 7 => iprop(atPos ER (sendCell c q) 1 ∅ 0 ∗ sendPay x c q)) ∗ atPos ER (exitCell c) 1 ∅ 0 ∗ ow c (owe c 7 7 7)) := by
  have hL : iprop(iprop(records x K ∗ levAts L lv) ∗ ow c (owe c 7 7 0)
      ∗ bigSep Finset.univ fun q : Fin 7 => iprop(cred (tallyAt (sendCell c q) () N) ∗ atPos ER (sendCell c q) 0 ∅ 0))
      ⊢ run c (peers (sentQ (F := F) c)) fun _ => iprop(ow c (owe c 7 7 0) ∗ bigSep Finset.univ fun q : Fin 7 => iprop(atPos ER (sendCell c q) 1 ∅ 0 ∗ sendPay x c q)) :=
    peers_spec c (St := fun _ => ow c (owe c 7 7 0)) (fun q => sentQ_spec x K c q)
  have hE : iprop(records x K ∗ ow c (owe c 7 7 0) ∗ bigSep Finset.univ fun q : Fin 7 => dutyTok ER (exitCell (pr c q)) 0 (rv q))
      ⊢ run c (peers (signalE (F := F) c)) fun _ => iprop(ow c (owe c 7 7 7) ∗ bigSep Finset.univ fun _ : Fin 7 => iprop(emp)) :=
    peers_spec c (St := fun n => ow c (owe c 7 7 n)) (fun q => signalE_spec x K c q)
  iintro ⟨⟨#HR, #Hlev⟩, HS, HtE, ⟨Hc, Ha⟩, HO⟩
  iapply (run_step hL) $$ [HS HO]
  · isplitr
    · isplitr; · iexact HR
      iexact Hlev
    isplitl [HO] <;> iassumption
  iintro ⟨HO, HS⟩
  iapply (run_step hE) $$ [HtE HO]
  · isplitr; · iexact HR
    isplitl [HO] <;> iassumption
  iintro ⟨HO, -⟩
  iapply (run_last (waitE_spec x K c)) $$ [HO Hc Ha]
  · isplitr; · iexact HR
    isplitr; · iexact Hlev
    isplitl [HO]; · iexact HO
    isplitl [Hc] <;> iassumption
  iintro ⟨HO, Ha⟩
  isplitl [HS]; · iexact HS
  isplitl [Ha] <;> iassumption

/-- The body of device `c`: from the state after the launch to the result written, every buffer back and every counter at
    zero. -/
theorem body_spec :
    iprop(iprop(records x K ∗ levAts L lv) ∗ linear c ∗ credits c ∗ xPts x c ∗ scratches c ∗ wPts w c ∗ anyB c main_v1 ∗ ow c (owe c 0 0 0))
      ⊢ run c (body (F := F)) fun _ =>
        iprop((xPts x c ∗ scratches c ∗ wPts w c ∗ outPts x w c) ∗ ((bigSep Finset.univ fun k : Fin 16 => semVal (kcell (c, k)) 0) ∗ locals0 c) ∗ ow c 0) := by
  have hb : body (F := F) = .op (.deviceId) fun d : Dev nD => startU d 0 >>= fun _ => narrowX >>= fun _ => peers (signalB d) >>= fun _ => semWaitWord barSem 7#32 >>= fun _ =>
      peers (sendQ d) >>= fun _ => startU d 1 >>= fun _ => pumpU d 0 >>= fun _ => pumpU d 1 >>= fun _ => pumpU d 2 >>= fun _ => pumpU d 3 >>= fun _ =>
      dotOwn d 0 >>= fun _ => refill d 0 >>= fun _ => dotOwn d 1 >>= fun _ => refill d 1 >>= fun _ =>
      round d 0 >>= fun _ => round d 1 >>= fun _ => round d 2 >>= fun _ => round d 3 >>= fun _ => round d 4 >>= fun _ => round d 5 >>= fun _ => recvQ 6 >>= fun _ =>
      dotRx 6 14 >>= fun _ => finish 0 >>= fun _ => dotRx 6 15 >>= fun _ => finish 1 >>= fun _ => outWait 0 >>= fun _ => outWait 1 >>= fun _ =>
      peers (sentQ d) >>= fun _ => peers (signalE d) >>= fun _ => semWaitWord exitSem 7#32 := rfl
  have hpos := sixteen c fun g => (atPos ER g 0 ∅ 0 : sProp 𝕄)
  have hpos1 := sixteen c fun g => (atPos ER g 1 ∅ 0 : sProp 𝕄)
  have hcr := bigSep_sep' (Finset.univ : Finset (Fin 7)) (fun q => (cred (tallyAt (recvCell c q) () N) : sProp 𝕄)) (fun q => atPos ER (recvCell c q) 0 ∅ 0)
  have hcs := bigSep_sep' (Finset.univ : Finset (Fin 7)) (fun q => (cred (tallyAt (sendCell c q) () N) : sProp 𝕄)) (fun q => atPos ER (sendCell c q) 0 ∅ 0)
  have hdr := bigSep_sep' (Finset.univ : Finset (Fin 7)) (fun q => (atPos ER (recvCell c q) 1 ∅ 0 : sProp 𝕄)) (fun q => recvPay x c q)
  have hds := bigSep_sep' (Finset.univ : Finset (Fin 7)) (fun q => (atPos ER (sendCell c q) 1 ∅ 0 : sProp 𝕄)) (fun q => sendPay x c q)
  have h7 := seven fun q : Fin 7 => (recvPay x c q : sProp 𝕄)
  rw [hb]
  unfold linear credits locals0
  rw [hpos]
  iintro ⟨⟨#HR, #Hlev⟩, ⟨⟨HpB, HpE, HpS, HpV⟩, Htok, Hw0, Hw1, Ho0, Ho1⟩, ⟨HcB, HcE, HcV⟩, Hx, Hscr, Hw, Hout, HO⟩
  unfold scratches
  icases Hscr with ⟨Hb0, Hb1, Hb2, Hb3, Hb4⟩
  ihave Hi := (idle_split w c) $$ [Hw Hb2 Hw0 Hw1]
  · isplitl [Hw]; · iexact Hw
    isplitl [Hb2]; · iexact Hb2
    isplitl [Hw0] <;> iassumption
  icases Hi with ⟨Hi0, Hi1⟩
  unfold run
  rw [wp_deviceId]
  iapply (part1 x w K c) $$ [Hi0 Hx Hb0 Hb1 Htok HcB HpB HO]
  · isplitr
    · isplitr; · iexact HR
      iexact Hlev
    isplitl [Hi0 Hx Hb0 Hb1]
    · isplitl [Hi0]; · iexact Hi0
      isplitl [Hx]; · iexact Hx
      isplitl [Hb0] <;> iassumption
    isplitr [HO]
    · isplitl [Htok]; · iexact Htok
      isplitl [HcB] <;> iassumption
    · iexact HO
  iintro ⟨⟨Hf0, Hx, Hown⟩, ⟨HcS, HtE, HpB⟩, HO⟩
  iapply (part2 x w c) $$ [Hf0 Hi1 Hb3 Hb4 Hown HO]
  · isplitr; · iexact Hlev
    isplitl [Hf0 Hi1 Hb3 Hb4]
    · isplitl [Hf0]; · iexact Hf0
      isplitl [Hi1]; · iexact Hi1
      isplitl [Hb3] <;> iassumption
    isplitl [Hown] <;> iassumption
  iintro ⟨Hown, HM⟩
  iapply (part3 x w K c) $$ [HM HcV HpV]
  · isplitr
    · isplitr; · iexact HR
      iexact Hlev
    isplitl [HM]; · iexact HM
    iapply (Entails.of_eq hcr.symm)
    isplitl [HcV] <;> iassumption
  iintro ⟨HM, HV⟩
  ihave HV := (Entails.of_eq hdr) $$ HV
  icases HV with ⟨HpV, HrV⟩
  ihave HrV := (Entails.of_eq h7) $$ HrV
  icases HrV with ⟨R0, R1, R2, R3, R4, R5, R6⟩
  iapply (part4 x w c) $$ [HM R6 Hout Ho0 Ho1]
  · isplitr; · iexact Hlev
    isplitl [HM]; · iexact HM
    isplitl [R6]; · iexact R6
    isplitl [Hout]; · iexact Hout
    isplitl [Ho0] <;> iassumption
  iintro ⟨HW, Hb4, Hout, R6, Hvo, HO⟩
  ihave Hb1 := (show iprop(recvPay x c 0 ∗ recvPay x c 1 ∗ recvPay x c 2 ∗ recvPay x c 3 ∗ recvPay x c 4 ∗ recvPay x c 5 ∗ recvPay x c 6)
      ⊢ (anyB c cc0_scratch1 : sProp 𝕄) from (Entails.of_eq h7.symm).trans (rx_join x c)) $$ [R0 R1 R2 R3 R4 R5 R6]
  · isplitl [R0]; · iexact R0
    isplitl [R1]; · iexact R1
    isplitl [R2]; · iexact R2
    isplitl [R3]; · iexact R3
    isplitl [R4]; · iexact R4
    isplitl [R5] <;> iassumption
  ihave HS := (Entails.of_eq hcs.symm) $$ [HcS HpS]
  · isplitl [HcS] <;> iassumption
  iapply (wp_fupd frame (wpE (defs₀ (F := F)) 𝒱₀ (c : Thread nD τ) none) Set.univ)
  iapply (run_last (part5 x K c)) $$ [HS HtE HcE HpE HO]
  · isplitr
    · isplitr; · iexact HR
      iexact Hlev
    isplitl [HS]; · iexact HS
    isplitl [HtE]; · iexact HtE
    isplitr [HO]
    · isplitl [HcE] <;> iassumption
    · iexact HO
  iintro ⟨HS, HpE, HO⟩
  ihave HS := (Entails.of_eq hds) $$ HS
  icases HS with ⟨HpS, HsS⟩
  ihave Hpos := (Entails.of_eq hpos1.symm) $$ [HpB HpE HpS HpV]
  · isplitl [HpB]; · iexact HpB
    isplitl [HpE]; · iexact HpE
    isplitl [HpS] <;> iassumption
  imod (close_all x K c) $$ [Hpos] with Hz
  · isplitr; · iexact HR
    iexact Hpos
  imodintro
  ihave Hb0 := (xb_join x c) $$ [Hown HsS]
  · isplitl [Hown] <;> iassumption
  ihave HW := (Wst_end w c) $$ HW
  icases HW with ⟨Hb3, Hw, Hb2, Hw0, Hw1⟩
  icases Hvo with ⟨Ho0, Ho1⟩
  isplitl [Hx Hb0 Hb1 Hb2 Hb3 Hb4 Hw Hout]
  · isplitl [Hx]; · iexact Hx
    isplitl [Hb0 Hb1 Hb2 Hb3 Hb4]
    · isplitl [Hb0]; · iexact Hb0
      isplitl [Hb1]; · iexact Hb1
      isplitl [Hb2]; · iexact Hb2
      isplitl [Hb3] <;> iassumption
    isplitl [Hw] <;> iassumption
  isplitr [HO]
  · isplitl [Hz]; · iexact Hz
    isplitl [Hw0]; · iexact Hw0
    isplitl [Hw1]; · iexact Hw1
    isplitl [Ho0] <;> iassumption
  · rw [owe_done]; iexact HO

end Cert.KernelIdeal.Gemm

end
-- ==== Proof.Ghost.lean ====
module

public import proofs.«01_k».proof.Proof.Whole

/-!
# What the launch deals out

The cells of all devices, the tokens of their duties, and what each device starts with.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

variable (x : Dev nD → Vec F S4096x512 .f32)

/-! ## The semaphores at launch -/

set_option backward.proofsInPublic true in
/-- The body's scoped semaphores: the exit barrier, then the copies' in their order. -/
def osem (k : Fin 19) : SemLoc sig := if k.val = 0 then .reg exitSem else .dma ⟨k.val, k.isLt⟩

theorem ownSemFacts : Pipeline.OwnSemFacts cfg0.spec osem := by decide

set_option backward.proofsInPublic true in
def oS (q : Fin 7) : Fin 19 := ⟨q.val + 1, by omega⟩
set_option backward.proofsInPublic true in
def oR (q : Fin 7) : Fin 19 := ⟨q.val + 8, by omega⟩
theorem oS_inj : Function.Injective oS := by decide
theorem oR_inj : Function.Injective oR := by decide
theorem osem_send (q : Fin 7) : osem (oS q) = .dma (sendSem q) := by revert q; decide
theorem osem_recv (q : Fin 7) : osem (oR q) = .dma (recvSem q) := by revert q; decide

/-- The scoped counters of a device by what they are for. -/
theorem ownSems0_eq (c : Dev nD) : (Pipeline.ownSems0 (Ix := Unit) (Name := ℕ) (U := UU) (Lvl := ℕ) (Val := Elt F) (τ := τ) osem c : sProp 𝕄)
    = iprop(semVal (exitCell c) 0 ∗ (bigSep Finset.univ fun q : Fin 7 => semVal (sendCell c q) 0)
      ∗ (bigSep Finset.univ fun q : Fin 7 => semVal (recvCell c q) 0) ∗ locals0 c) := by
  have hs (q : Fin 7) : (semVal ((c.tc : Thread nD τ), osem (oS q)) 0 : sProp 𝕄) = semVal (sendCell c q) 0 := by rw [osem_send]
  have hr (q : Fin 7) : (semVal ((c.tc : Thread nD τ), osem (oR q)) 0 : sProp 𝕄) = semVal (recvCell c q) 0 := by rw [osem_recv]
  unfold Pipeline.ownSems0
  rw [show (Finset.univ : Finset (Fin 19)) = insert 0 (Finset.univ.map ⟨oS, oS_inj⟩ ∪ (Finset.univ.map ⟨oR, oR_inj⟩ ∪ {15, 16, 17, 18})) by decide,
    bigSep_insert (by decide), bigSep_union (by decide), bigSep_union (by decide), bigSep_map, bigSep_map, bigSep_insert (by decide),
    bigSep_insert (by decide), bigSep_insert (by decide), bigSep_singleton,
    ← bigSep_congr (s := Finset.univ) (fun q _ => hs q), ← bigSep_congr (s := Finset.univ) (fun q _ => hr q)]
  rfl

/-- The runtime's barrier is the one semaphore that is not scoped. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

/-- All the counters of a device: those of its sixteen cells and its own copies'. -/
theorem sems0_eq (c : Dev nD) :
    (iprop(Pipeline.ownSems0 (Ix := Unit) (Name := ℕ) (U := UU) (Lvl := ℕ) (Val := Elt F) (τ := τ) osem c ∗ unscopedSems0 c) : sProp 𝕄)
      ⊢ iprop((bigSep Finset.univ fun k : Fin 16 => semVal (kcell (c, k)) 0) ∗ locals0 c) := by
  rw [ownSems0_eq, unscopedSems0_eq, sixteen c fun g => (semVal g 0 : sProp 𝕄)]
  iintro ⟨⟨HE, HS, HV, HL⟩, HB⟩
  isplitr [HL]
  · isplitl [HB]; · iexact HB
    isplitl [HE]; · iexact HE
    isplitl [HS] <;> iassumption
  · iexact HL
theorem sems0_back (c : Dev nD) :
    iprop((bigSep Finset.univ fun k : Fin 16 => semVal (kcell (c, k)) 0) ∗ locals0 c)
      ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq, sixteen c fun g => (semVal g 0 : sProp 𝕄)]
  iintro ⟨⟨HB, HE, HS, HV⟩, HL⟩
  isplitl [HB]; · iexact HB
  isplitl [HE]; · iexact HE
  isplitl [HS]; · iexact HS
  isplitl [HV] <;> iassumption

/-! ## Cells and tokens -/

theorem csem_inj : Function.Injective csem := by decide
theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_inj (congrArg Prod.snd h)
  rw [h1, h2]
def protoCells : Finset (GSem nD τ sig) := Finset.univ.map ⟨kcell, kcell_injective⟩

/-- A device's duties: its barrier's seven, its exit barrier's seven, one for each departure, one for each landing. -/
def tokOf (t : Dev nD × Fin 4 × Fin 7) : GSem nD τ sig × ℕ × Fin 7 := match t.2.1 with
  | 0 => (barCell t.1, 0, t.2.2) | 1 => (exitCell t.1, 0, t.2.2) | 2 => (sendCell t.1 t.2.2, 0, 0) | 3 => (recvCell t.1 t.2.2, 0, 0)
/-- The duty a token is for. -/
def tokBack (g : GSem nD τ sig × ℕ × Fin 7) : Dev nD × Fin 4 × Fin 7 := (g.1.1.1, match role g.1.2 with
  | .bar => (0, g.2.2) | .exit => (1, g.2.2) | .send q => (2, q) | .recv q => (3, q) | .other => (0, 0))
theorem tokBack_tokOf (t : Dev nD × Fin 4 × Fin 7) : tokBack (tokOf t) = t := by
  obtain ⟨c, i, e⟩ := t
  fin_cases i
  · show (c, _) = _; dsimp only [tokOf]; rw [role_bar]; rfl
  · show (c, _) = _; dsimp only [tokOf]; rw [role_exit]; rfl
  · show (c, _) = _; dsimp only [tokOf]; rw [role_send]; rfl
  · show (c, _) = _; dsimp only [tokOf]; rw [role_recv]; rfl
def protoToks : Finset (GSem nD τ sig × ℕ × Fin 7) := Finset.univ.map ⟨tokOf, Function.LeftInverse.injective tokBack_tokOf⟩

/-- The tokens of the duties of a device's own cells. -/
def toks (c : Dev nD) : sProp 𝕄 :=
  iprop((bigSep Finset.univ fun e : Fin 7 => dutyTok ER (barCell c) 0 e) ∗ (bigSep Finset.univ fun e : Fin 7 => dutyTok ER (exitCell c) 0 e)
    ∗ (bigSep Finset.univ fun q : Fin 7 => dutyTok ER (sendCell c q) 0 0) ∗ bigSep Finset.univ fun q : Fin 7 => dutyTok ER (recvCell c q) 0 0)

def u₀ : UU :=
  (Rounds.initOf (Pipeline.cells cfgs cellOf_inj) (Pipeline.launchToks cfgs cellOf_inj), (Rounds.initOf protoCells protoToks, 1))

/-- What the launch's ghost state deals device `c`. -/
def G (c : Dev nD) : sProp 𝕄 :=
  iprop((bigSep Finset.univ fun k : Fin 16 => roundState ER (Rd x) (kcell (c, k)) 0)
    ∗ (bigSep Finset.univ fun k : Fin 16 => iprop(atPos ER (kcell (c, k)) 0 ∅ 0 ∗ reached ER (kcell (c, k)) 0)) ∗ toks c)
/-- What all devices together make of it. -/
def G' (c : Dev nD) : sProp 𝕄 := iprop(∃ K, records x K ∗ linear c)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_proto : BI.own (ER (Rounds.initOf protoCells protoToks)) ⊢ (|==> bigSep Finset.univ (G x) : sProp 𝕄) := by
  have hX (Φ : GSem nD τ sig → sProp 𝕄) : bigSep protoCells Φ = bigSep Finset.univ fun c : Dev nD => bigSep Finset.univ fun k : Fin 16 => Φ (kcell (c, k)) := by
    unfold protoCells; rw [bigSep_map, bigSep_univ_prod]; rfl
  have hT : bigSep protoToks (fun g => (dutyTok ER g.1 g.2.1 g.2.2 : sProp 𝕄)) = bigSep Finset.univ fun c : Dev nD => toks c := by
    unfold protoToks; rw [bigSep_map, bigSep_univ_prod]
    exact bigSep_congr fun c _ => by rw [bigSep_univ_prod, four]; rfl
  iintro HX
  imod (Rounds.fund ER (Rd x) protoCells protoToks) $$ HX with ⟨Hst, Hr, Hat, Htok⟩
  imodintro
  ihave Hst' := (Entails.of_eq (hX fun g => roundState ER (Rd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device puts each of its cells under its invariant. -/
theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k : Fin 16 => iprop(∃ κ : ℕ, cellInv ER (Rd x) κ (kcell (c, k))))
          ∗ (bigSep Finset.univ fun k : Fin 16 => iprop(atPos ER (kcell (c, k)) 0 ∅ 0 ∗ reached ER (kcell (c, k)) 0)) ∗ toks c ∗ locals0 c) := by
  have hk (k : Fin 16) : (iprop(semVal (kcell (c, k)) 0 ∗ roundState ER (Rd x) (kcell (c, k)) 0) : sProp 𝕄)
      ⊢ iprop(|={Set.univ}=> ∃ κ : ℕ, cellInv ER (Rd x) κ (kcell (c, k))) :=
    (Rounds.body_intro ER (Rd x) (kcell (c, k))).trans inv_alloc
  have hall : (iprop((bigSep Finset.univ fun k : Fin 16 => semVal (kcell (c, k)) 0) ∗ bigSep Finset.univ fun k : Fin 16 => roundState ER (Rd x) (kcell (c, k)) 0) : sProp 𝕄)
      ⊢ iprop(|={Set.univ}=> bigSep Finset.univ fun k : Fin 16 => iprop(∃ κ : ℕ, cellInv ER (Rd x) κ (kcell (c, k)))) := by
    rw [← bigSep_sep']
    exact (bigSep_mono fun k _ => hk k).trans (bigSep_fupd _ _)
  unfold G
  iintro ⟨Hos, Hus, Hst, Hat, Htok⟩
  ihave Hv := (sems0_eq (F := F) c) $$ [Hos Hus]
  · isplitl [Hos] <;> iassumption
  icases Hv with ⟨Hv, Hl⟩
  imod (hall) $$ [Hv Hst] with Hinv
  · isplitl [Hv] <;> iassumption
  imodintro
  isplitl [Hinv]; · iexact Hinv
  isplitl [Hat]; · iexact Hat
  isplitl [Htok] <;> iassumption

/-! ## Each token to the device that pays with it -/

/-- A signal's sender and receiver change places. -/
def swapE : Dev nD × Fin 7 ≃ Dev nD × Fin 7 :=
  ⟨fun p => (pr p.1 p.2, rv p.2), fun p => (pr p.1 p.2, rv p.2), fun p => by simp only [pr_rv, rv_rv], fun p => by simp only [pr_rv, rv_rv]⟩
/-- The receiver of a block for its sender. -/
def sendE : Dev nD × Fin 7 ≃ Dev nD × Fin 7 :=
  ⟨fun p => (pr p.1 p.2, p.2), fun p => (pl p.1 p.2, p.2), fun p => by simp only [pl_pr], fun p => by simp only [pr_pl]⟩

theorem by_pair (E : Dev nD × Fin 7 ≃ Dev nD × Fin 7) (Φ : Dev nD × Fin 7 → sProp 𝕄) :
    (bigSep Finset.univ fun c : Dev nD => bigSep Finset.univ fun q : Fin 7 => Φ (c, q))
      = bigSep Finset.univ fun c : Dev nD => bigSep Finset.univ fun q : Fin 7 => Φ (E (c, q)) := by
  rw [← bigSep_univ_prod Φ, bigSep_univ_equiv E Φ, bigSep_univ_prod]

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    by_pair swapE fun p => dutyTok ER (barCell p.1) 0 p.2, by_pair swapE fun p => dutyTok ER (exitCell p.1) 0 p.2,
    by_pair sendE fun p => dutyTok ER (recvCell p.1 p.2) 0 0]
  exact BI.Entails.refl _

theorem regroup :
    (bigSep Finset.univ fun c : Dev nD => iprop((bigSep Finset.univ fun k : Fin 16 => iprop(∃ κ : ℕ, cellInv ER (Rd x) κ (kcell (c, k))))
          ∗ (bigSep Finset.univ fun k : Fin 16 => iprop(atPos ER (kcell (c, k)) 0 ∅ 0 ∗ reached ER (kcell (c, k)) 0)) ∗ toks c ∗ locals0 c) : sProp 𝕄)
      ⊢ bigSep Finset.univ (G' x) := by
  have hG (K : Dev nD × Fin 16 → ℕ) (c : Dev nD) : (iprop(records x K ∗ linear c) : sProp 𝕄) ⊢ G' x c := by
    unfold G'; iintro H; iexists K; iexact H
  have hL : (iprop((bigSep Finset.univ fun c : Dev nD => bigSep Finset.univ fun k : Fin 16 => atPos ER (kcell (c, k)) 0 ∅ 0)
      ∗ (bigSep Finset.univ fun c : Dev nD => payToks c) ∗ bigSep Finset.univ fun c : Dev nD => locals0 c) : sProp 𝕄)
      ⊢ bigSep Finset.univ fun c : Dev nD => linear c := by
    unfold linear; rw [bigSep_sep', bigSep_sep']
  rw [bigSep_sep', bigSep_sep', bigSep_sep', ← bigSep_univ_prod (fun ck : Dev nD × Fin 16 => iprop(∃ κ : ℕ, cellInv ER (Rd x) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄))]
  iintro ⟨HI, ⟨Hat, #HR⟩, Htok, Hl⟩
  ihave HK := (BI.bigSep_exists_pi Finset.univ (fun (ck : Dev nD × Fin 16) (κ : ℕ) => (cellInv ER (Rd x) κ (kcell ck) : sProp 𝕄))) $$ HI
  icases HK with ⟨%K, #HI⟩
  ihave Htk := (toks_around (F := F)) $$ Htok
  iapply (bigSep_with (R := records x K) fun c _ => hG K c)
  isplitr
  · unfold records; isplitl; · iexact HI
    iexact HR
  · iapply hL
    isplitl [Hat]; · iexact Hat
    isplitl [Htk] <;> iassumption

/-- The semaphores and the ghost state of all devices become what each starts with. -/
theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

/-! ## The credits -/

theorem sum_at {S : Finset (Fin 7)} (f : Fin 7 → GSem nD τ sig) (k : ℕ) (g : GSem nD τ sig) :
    (∑ q ∈ S, (tallyAt (f q) () k : CellTallies nD τ sig Unit)) g () = ∑ q ∈ S, k * (if g = f q then 1 else 0) := by
  rw [Finset.sum_apply, Finsupp.finset_sum_apply]
  refine Finset.sum_congr rfl fun q _ => ?_
  rw [tallyAt_apply]
  by_cases h : g = f q
  · rw [if_pos ⟨h, rfl⟩, if_pos h, Nat.mul_one]
  · rw [if_neg fun h' => h h'.1, if_neg h, Nat.mul_zero]

theorem bar_eq_iff (a b : Dev nD) : barCell a = barCell b ↔ a = b := ⟨fun h => congrArg (fun g : GSem nD τ sig => g.1.1) h, fun h => h ▸ rfl⟩
theorem exit_eq_iff (a b : Dev nD) : exitCell a = exitCell b ↔ a = b := ⟨fun h => congrArg (fun g : GSem nD τ sig => g.1.1) h, fun h => h ▸ rfl⟩
theorem recv_eq_iff (a b : Dev nD) (p q : Fin 7) : recvCell a p = recvCell b q ↔ a = b ∧ p = q :=
  ⟨fun h => ⟨congrArg (fun g : GSem nD τ sig => g.1.1) h, by
    have h' := congrArg (fun g : GSem nD τ sig => role g.2) h
    dsimp only at h'; rw [role_recv, role_recv] at h'; exact Role.recv.inj h'⟩, fun h => by rw [h.1, h.2]⟩

theorem of_role {a b : Dev nD} {s t : SemLoc sig} (h : role s ≠ role t) : ((a : Thread nD τ), s) ≠ ((b : Thread nD τ), t) :=
  fun h' => h (congrArg (fun g : GSem nD τ sig => role g.2) h')

theorem bar_ne_exit (a b : Dev nD) : barCell a ≠ exitCell b := of_role (by rw [role_bar, role_exit]; exact fun h => by cases h)
theorem bar_ne_recv (a b : Dev nD) (q : Fin 7) : barCell a ≠ recvCell b q := of_role (by rw [role_bar, role_recv]; exact fun h => by cases h)
theorem exit_ne_recv (a b : Dev nD) (q : Fin 7) : exitCell a ≠ recvCell b q := of_role (by rw [role_exit, role_recv]; exact fun h => by cases h)

theorem owed_bar (d c : Dev nD) : owe d 0 0 0 (barCell c) () = ∑ q : Fin 7, if c = pr d q then 1 else 0 := by
  unfold owe
  rw [Pi.add_apply, Finsupp.add_apply, Pi.add_apply, Finsupp.add_apply, sum_at, sum_at, sum_at, from_zero]
  simp only [bar_eq_iff, if_neg (bar_ne_recv _ _ _), if_neg (bar_ne_exit _ _), Nat.mul_zero, Finset.sum_const_zero, Nat.add_zero, Nat.one_mul]
theorem owed_exit (d c : Dev nD) : owe d 0 0 0 (exitCell c) () = ∑ q : Fin 7, if c = pr d q then 1 else 0 := by
  unfold owe
  rw [Pi.add_apply, Finsupp.add_apply, Pi.add_apply, Finsupp.add_apply, sum_at, sum_at, sum_at, from_zero]
  simp only [exit_eq_iff, if_neg (exit_ne_recv _ _ _), if_neg (bar_ne_exit _ _).symm, Nat.mul_zero, Finset.sum_const_zero, Nat.zero_add, Nat.one_mul]
theorem owed_recv (d c : Dev nD) (p : Fin 7) : owe d 0 0 0 (recvCell c p) () = ∑ q : Fin 7, N * if c = pr d q ∧ p = q then 1 else 0 := by
  unfold owe
  rw [Pi.add_apply, Finsupp.add_apply, Pi.add_apply, Finsupp.add_apply, sum_at, sum_at, sum_at, from_zero]
  simp only [recv_eq_iff, if_neg (exit_ne_recv _ _ _).symm, if_neg (bar_ne_recv _ _ _).symm, Nat.mul_zero, Finset.sum_const_zero, Nat.zero_add, Nat.add_zero]

abbrev O₀ (c : Dev nD) : CellTallies nD τ sig Unit := owe c 0 0 0

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_bar (c : Dev nD) : ∑ d : Dev nD, O₀ d (barCell c) () = 7 := by
  rw [Finset.sum_congr rfl fun d _ => owed_bar d c]; revert c; decide
theorem launch_exit (c : Dev nD) : ∑ d : Dev nD, O₀ d (exitCell c) () = 7 := by
  rw [Finset.sum_congr rfl fun d _ => owed_exit d c]; revert c; decide
theorem launch_recv (c : Dev nD) (p : Fin 7) : ∑ d : Dev nD, O₀ d (recvCell c p) () = N := by
  have h : ∑ d : Dev nD, ∑ q : Fin 7, (if c = pr d q ∧ p = q then 1 else 0) = 1 := by revert c p; decide
  rw [Finset.sum_congr rfl fun d _ => (owed_recv d c p).trans (Finset.mul_sum _ _ _).symm, ← Finset.mul_sum, h, Nat.mul_one]

theorem recvSem_inj : Function.Injective fun q : Fin 7 => SemLoc.dma (sig := sig) (recvSem q) := by decide

/-- What a device waits with, out of what the others owe it. -/
theorem creds (c : Dev nD) : (Pipeline.launchCred O₀ c : sProp 𝕄) ⊢ credits c := by
  have hr (q : Fin 7) : (cred (tallyOn ((c.tc : Thread nD τ), SemLoc.dma (recvSem q)) (launchCredit (Pipeline.owing O₀) 0 ((c.tc : Thread nD τ), SemLoc.dma (recvSem q)))) : sProp 𝕄)
      = cred (tallyAt (recvCell c q) () N) := congrArg cred (launch_at (recvCell c q) N (launch_recv c q))
  have hb : (cred (tallyOn ((c.tc : Thread nD τ), SemLoc.reg barSem) (launchCredit (Pipeline.owing O₀) 0 ((c.tc : Thread nD τ), SemLoc.reg barSem))) : sProp 𝕄)
      = cred (tallyAt (barCell c) () 7) := congrArg cred (launch_at (barCell c) 7 (launch_bar c))
  have he : (cred (tallyOn ((c.tc : Thread nD τ), SemLoc.reg exitSem) (launchCredit (Pipeline.owing O₀) 0 ((c.tc : Thread nD τ), SemLoc.reg exitSem))) : sProp 𝕄)
      = cred (tallyAt (exitCell c) () 7) := congrArg cred (launch_at (exitCell c) 7 (launch_exit c))
  unfold Pipeline.launchCred credits
  refine (bigSep_subset (t := insert (SemLoc.reg barSem) (insert (SemLoc.reg exitSem) (Finset.univ.map ⟨fun q : Fin 7 => SemLoc.dma (recvSem q), recvSem_inj⟩))) (Finset.subset_univ _)).trans ?_
  rw [bigSep_insert (by decide), bigSep_insert (by decide), bigSep_map, hb, he]
  exact Entails.of_eq (congrArg (fun X : sProp 𝕄 => iprop(_ ∗ _ ∗ X)) (bigSep_congr fun q _ => hr q))

end Cert.KernelIdeal.Gemm

end
-- ==== Proof.Run.lean ====
module

public import proofs.«01_k».proof.Proof.Ghost
public import Idealize.ShloMosaic.Lib.Pipeline.CollectiveSegs

/-!
# The run

Every run of the eight devices from any memory with zero counters ends, in one memory.
-/

@[expose] public section

set_option synthInstance.maxSize 4096

noncomputable section

namespace Cert.KernelIdeal.Gemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ UU ℕ

variable (m : (l : Loc nD τ sig) → Buf (Elt F) l) (ρ : Dev nD → PrngReg)

def s₀ : MemSt nD τ sig (Elt F) := ⟨m, fun _ => 0, ρ⟩

/-- The activations device `c` finds. -/
def act (c : Dev nD) : Vec F S4096x512 .f32 := (win0_0.blk (0 : Fin 1)).view.read (Elt F) ((s₀ m ρ).mem ((c : Thread nD τ).loc main_arg0))
/-- The weights device `c` finds. -/
def wgt (c : Dev nD) : Vec F S4096x8192 .f32 := (s₀ m ρ).mem ((c : Thread nD τ).loc main_arg1)

/-- What a device starts with beside its scoped buffers. -/
def start (c : Dev nD) : sProp 𝕄 :=
  iprop(G' (act m ρ) c ∗ levAts L lv ∗ credits c ∗ wPts (wgt m ρ) c ∗ anyB c main_v1)
def Φ₀ (c : Dev nD) : sProp 𝕄 := iprop(start m ρ c ∗ scratches c)
/-- What it ends with. -/
def Φ₁ (c : Dev nD) : sProp 𝕄 :=
  iprop(scratches c ∗ ((bigSep Finset.univ fun k : Fin 16 => semVal (kcell (c, k)) 0) ∗ locals0 c) ∗ wPts (wgt m ρ) c ∗ outPts (act m ρ) (wgt m ρ) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => act m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc ∗ ∃ d, stg c cc0_stg0_0 ((dats m ρ 0 c).before (0 : Fin 1) t0_0 d))
def bodyPost (c : Dev nD) : sProp 𝕄 :=
  iprop(Φ₁ m ρ c ∗ (dats m ρ 0 c).owesAt () t0_0.succ ∗ stg c cc0_stg0_0 (act m ρ c))

theorem before_x (c : Dev nD) (d : Vec F S4096x512 .f32) : (dats m ρ 0 c).before (0 : Fin 1) t0_0 d = act m ρ c := by
  unfold Dat.before
  rw [if_pos (fetch0_0 _)]; rfl

theorem owes_start (c : Dev nD) : ((dats m ρ 0 c).owesAt () t0_0.castSucc : sProp 𝕄) ⊢ ow c (owe c 0 0 0) := by
  unfold Dat.owesAt Pipeline.owesWithin ow
  rw [show (dats m ρ 0 c).owed t0_0.castSucc = owe c 0 0 0 from rfl]
  iintro ⟨%W, -, HO⟩
  iexists W; iexact HO
theorem owes_end (c : Dev nD) : (ow c 0 : sProp 𝕄) ⊢ (dats m ρ 0 c).owesAt () t0_0.succ := by
  unfold Dat.owesAt Pipeline.owesWithin ow
  rw [show (dats m ρ 0 c).owed t0_0.succ = 0 from rfl]
  iintro ⟨%W, HO⟩
  iexists W
  isplitr; · ipureintro; exact fun _ _ => Or.inl trivial
  iexact HO

/-- The body, from what a device starts with to what it ends with. -/
theorem body_run (c : Dev nD) : bodyPre m ρ c ⊢ run c (body (F := F)) fun _ => bodyPost m ρ c := by
  have hpost (_ : PUnit) : (iprop((xPts (act m ρ) c ∗ scratches c ∗ wPts (wgt m ρ) c ∗ outPts (act m ρ) (wgt m ρ) c)
      ∗ ((bigSep Finset.univ fun k : Fin 16 => semVal (kcell (c, k)) 0) ∗ locals0 c) ∗ ow c 0) : sProp 𝕄) ⊢ bodyPost m ρ c := by
    unfold bodyPost Φ₁
    iintro ⟨⟨Hx, Hscr, Hw, Hout⟩, Hs, HO⟩
    isplitl [Hscr Hw Hout Hs]
    · isplitl [Hscr]; · iexact Hscr
      isplitl [Hs]; · iexact Hs
      isplitl [Hw] <;> iassumption
    isplitl [HO]
    · iapply (owes_end m ρ c); iexact HO
    · iexists (act m ρ c); isplitr; · ipureintro; rfl
      unfold xPts; iexact Hx
  have hrun (K : Dev nD × Fin 16 → ℕ) := (body_spec (act m ρ) (wgt m ρ) K c).trans (wp_mono frame (wpE (defs₀ (F := F)) 𝒱₀ (c : Thread nD τ) none) Set.univ hpost)
  unfold bodyPre Φ₀ start G'
  iintro ⟨⟨⟨⟨%K, #HR, Hlin⟩, #Hlev, Hcr, Hw, Hout⟩, Hscr⟩, Ho, ⟨%d, %f, %hf, Hx⟩⟩
  ihave HO := (owes_start m ρ c) $$ Ho
  iapply (hrun K)
  isplitr
  · isplitr; · iexact HR
    iexact Hlev
  isplitl [Hlin]; · iexact Hlin
  isplitl [Hcr]; · iexact Hcr
  isplitl [Hx]
  · rw [before_x] at hf
    subst hf; unfold xPts; iexact Hx
  isplitl [Hscr]; · iexact Hscr
  isplitl [Hw]; · iexact Hw
  isplitl [Hout] <;> iassumption

set_option maxRecDepth 20000 in
/-- The body at the one point of the grid. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ wp frame (wpE (defs₀ (F := F)) 𝒱₀ (c : Thread nD τ) none) Set.univ (bodyAt0 (F := F) t0_0) fun _ => bodyPost m ρ c
  rw [body_eq]
  exact body_run m ρ c

/-! ## The launch -/

theorem share_eq (c : Dev nD) (i : Fin cfg0.W) : (dats m ρ 0 c).share i = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (act m ρ) c)
      ⊢ |={Set.univ}=> iprop(start m ρ c ∗ emp) := by
  rw [Pipeline.unscopedRestP_none, unscopedRest0_eq]
  unfold start wPts anyB
  iintro ⟨⟨Hw, Hout⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hw]; · iexact Hw
    iexists _; iexact Hout
  · iempintro

theorem start_at (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches anyB
  iintro ⟨Hs, -, Hr⟩
  isplitl [Hs] <;> iassumption

/-- What a device still has after its body. -/
def left (c : Dev nD) : sProp 𝕄 := iprop(unscopedSems0 c ∗ wPts (wgt m ρ) c ∗ outPts (act m ρ) (wgt m ρ) c)

theorem end_at (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq]
  unfold Φ₁ left scratches anyB
  iintro ⟨Hscr, Hs, Hw, Hout⟩
  ihave Hs := (sems0_back c) $$ Hs
  icases Hs with ⟨Hu, Ho⟩
  isplitl [Hu Hw Hout]
  · isplitl [Hu]; · iexact Hu
    isplitl [Hw] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun i s t => by
    have hr : role (.dma ((cfg0.win i).sem s)) = .other := by fin_cases i <;> fin_cases s <;> decide
    rcases t with ⟨_ | _, ht⟩
    · exact mayWait_local c _ hr 0 0 0
    · rw [show (dats m ρ 0 c).owed ⟨_ + 1, ht⟩ = owe c 7 7 7 from (owe_done c).symm]
      exact mayWait_local c _ hr 7 7 7

/-! ## The memory at the end -/

/-- What the final memory has on device `c`. -/
def Last (c : Dev nD) (s : MemSt nD τ sig (Elt F)) : Prop :=
  (s.mem ((c : Thread nD τ).loc main_arg1) = wgt m ρ c ∧ s.mem ((c : Thread nD τ).loc main_v1) = outV (act m ρ) (wgt m ρ) c)
    ∧ ∀ sm : SemLoc sig, sm.isScoped .tc = false → s.sem ((c.tc : Thread nD τ), sm) = 0

theorem read_last (c : Dev nD) (s' : Phys nD τ sig (Elt F)) :
    iprop(left m ρ c ∗ emp ∗ SI s') ⊢ |={Set.univ}=> iprop(⌜Last m ρ c s'.mem⌝ ∗ SI s') := by
  unfold left wPts outPts
  iintro ⟨⟨Hu, Hw, Hout⟩, -, HSI⟩
  ihave %hw := (SI_pointsTo_agree (st := s')) $$ [HSI Hw]
  · isplitl [HSI] <;> iassumption
  ihave %ho := (SI_pointsTo_agree (st := s')) $$ [HSI Hout]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hw i (Finset.mem_univ i), funext fun i => ho i (Finset.mem_univ i)⟩, hs⟩
  · iexact HSI

def QC : PUnit × MemSt nD τ sig (Elt F) → Prop := fun r =>
  ∀ c : Dev nD, (∀ i : Fin cfg0.W, r.2.mem ((cfg0.win i).arr.view.loc (c : Thread nD τ)) = (dats m ρ 0 c).arrAt i cfg0.N)
    ∧ r.2.mem ((c : Thread nD τ).loc main_arg1) = wgt m ρ c ∧ r.2.mem ((c : Thread nD τ).loc main_v1) = outV (act m ρ) (wgt m ρ) c

set_option maxRecDepth 20000 in
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (act m ρ)) (G' := G' (act m ρ)) (u₀ := u₀)
    (hu₀ := by
      unfold u₀
      iintro Hu
      ihave H := (ownU_pair _ _) $$ Hu
      icases H with ⟨HP, HX⟩
      ihave HX := (own_pair_emb (embR : Emb (UB × Counters) 𝕄) _ _) $$ HX
      icases HX with ⟨HX, -⟩
      imod (show BI.own (((Emb.inl : Emb UB (UB × Counters)).trans embR : Emb UB 𝕄) (Rounds.initOf protoCells protoToks)) ⊢ _ from fund_proto (act m ρ)) $$ HX with HG
      imodintro
      isplitl [HP] <;> iassumption)
    (hglob := glob (act m ρ))
    (hA := fun _ _ => rfl) (hpf := fun _ k => k.elim0)
    (X := start m ρ) (Y := left m ρ) (Z := fun _ => iprop(emp))
    (hX := start_intro m ρ) (hin := start_at m ρ) (hout := end_at m ρ)
    (QY := Last m ρ)
    (hY := read_last m ρ)
    (hQ := fun _ h hs => ⟨fun c => ⟨(h c).1, (h c).2.2.1⟩, sem_eq_zero hs fun c => (h c).2.2.2⟩)

/-- The run: the arguments as they were, each device's result at its value, every counter at zero. -/
theorem run_main : θ_run defs (onTc (τ := τ) (main (F := F))) (s₀ m ρ) fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outV (act m ρ) (wgt m ρ) c) ∧ r.2.sem = fun _ => 0 :=
  (θ_run defs _ _).mono (fun r h => ⟨fun c => ⟨((h.1 c).1 (0 : Fin 1)).trans ((dats (F := F) m ρ 0 c).arrAt_in (0 : Fin 1) rfl _), (h.1 c).2.1, (h.1 c).2.2⟩, h.2⟩)
    (run_all m ρ)

end Cert.KernelIdeal.Gemm

end
-- ==== Proof.Frames.lean ====
module

public import proofs.«01_k».proof.Defs
public import proofs.«01_k».proof.Proof.Run
public import proofs.«01_k».proof.Proof.Gen.Kernel
public import proofs.«01_k».proof.Proof.Gen.ReferenceIdeal.Run

/-!
# The programs run

Each of the three programs ends on every device, leaves its arguments as they were, and leaves every counter at zero.
-/

@[expose] public section

set_option maxRecDepth 20000

noncomputable section

namespace Cert.Proof

open Idealize.ShloMosaic Idealize.SL.Sem

/-- The run of the kernel's text, over any float values. -/
theorem frame_any {F : FTy → Type} [FloatOps F] (m : (l : Loc Cert.KernelIdeal.nD Cert.KernelIdeal.τ Cert.KernelIdeal.sig) → Buf (Elt F) l)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Gemm.run_main m g)

/-- The idealized kernel. -/
theorem frame_ideal : quiescent_KernelIdeal (hKernelIdeal := Cert.KernelIdeal.Gen.facts) := fun m g _ => frame_any (F := Ideal) m g

/-- The kernel and its idealization have the same bodies, -/
theorem defs₀_same {F : FTy → Type} [FloatOps F] : Cert.Kernel.defs₀ (F := F) = Cert.KernelIdeal.defs₀ (F := F) :=
  congrArg Defs.onTc (funext fun l => funext fun a => match l, a with
    | 0, _ => rfl
    | ⟨_ + 1, h⟩, _ => absurd h (Nat.not_lt.2 (Nat.le_add_left _ _)))
/-- so the same body tables. -/
theorem defs_same {F : FTy → Type} [FloatOps F] : Cert.Kernel.defs (F := F) = Cert.KernelIdeal.defs (F := F) :=
  congrArg (Pipeline.defs (Cert.KernelIdeal.pcfgs (F := F))) defs₀_same

/-- The kernel in machine floats: the two programs are one text. -/
theorem frame_bits : quiescent_Kernel (hKernel := Cert.Kernel.Gen.facts) := fun m g _ => by
  rw [defs_same]
  exact frame_any (F := Bits) m g

/-- The reference. -/
theorem frame_ref : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

end Cert.Proof

end
-- ==== Proof.Value.lean ====
module

public import proofs.«01_k».proof.Proof.Frames
public import Idealize.ShloMosaic.Lib.StackMember
public import Idealize.ShloMosaic.Lib.KernelVsHost

/-!
# The result is the reference's

Over the extended reals. Each accumulator half is a sum over the eight devices' blocks of the contraction, taken in the
order the rows arrive; a sum does not mind the order, so it is the whole product's entry; and the activation function
the kernel applies is the reference's with its products arranged otherwise.
-/

@[expose] public section

set_option maxRecDepth 20000

noncomputable section

namespace Cert.KernelIdeal.Gemm

open Idealize.ShloMosaic Idealize.ShloMosaic.TcCoe Idealize.SL.Sem
open Cert.KernelIdeal.Gen
open Idealize.ShloMosaic.ValueIdx
open scoped BigOperators

/-! ## Where things lie -/

/-- Place `i` of device `k`'s share of an axis of 4096; -/
def at8 (k : Dev nD) (i : Fin 512) : Fin 4096 := ⟨512 * k.val + i.val, by have := k.isLt; have : nD = 8 := rfl; omega⟩
/-- column `j` of half `h` of the result's columns; -/
def at2 (h : Fin 2) (j : Fin 4096) : Fin 8192 := ⟨4096 * h.val + j.val, by omega⟩
set_option backward.proofsInPublic true in
/-- and the device whose share step `s` multiplies: the one `s` back. -/
def src (c : Dev nD) (s : ℕ) : Dev nD := ⟨(c.val + 8 - s % 8) % 8, Nat.mod_lt _ (by decide)⟩

theorem src_zero (c : Dev nD) : src c 0 = c := by revert c; decide
/-- The peer whose rows step `s + 1` takes. -/
theorem pl_step (c : Dev nD) (s h : ℕ) (hs : s < 7) (hh : h < 2) : pl c (qOf (2 * s + h + 2)) = src c (s + 1) := by
  have e : qOf (2 * s + h + 2) = ⟨s, hs⟩ := Fin.ext (by show ((2 * s + h + 2) / 2 - 1) % 7 = s; omega)
  rw [e]
  exact (by decide : ∀ (c : Dev nD) (s : Fin 7), pl c s = src c (s.val + 1)) c ⟨s, hs⟩
/-- Where unit `u` of the weights begins. -/
theorem wOff_at (c : Dev nD) (u : Fin 32) :
    wOff c u.val = ![512 * (src c (u.val / 4)).val, 4096 * (u.val / 2 % 2) + 2048 * (u.val % 2)] := by
  revert c u; decide +kernel

variable (x : Dev nD → Vec Ideal S4096x512 .f32) (w : Dev nD → Vec Ideal S4096x8192 .f32)

/-- The rows one device holds for another, entry by entry. -/
theorem xrow_at (c k : Dev nD) (i j : Fin 512) : xrow x c k (ix2 i j) = x c (ix2 (at8 k i) j) := by
  unfold xrow xbv k0_pay1
  rw [shapeCast_self, shapeCast_self]
  show x c _ = x c _
  congr 1
  funext a; apply Fin.ext
  match a with
  | ⟨0, _⟩ => simp [Rect.emb_apply, at8]
  | ⟨1, _⟩ => simp [Rect.emb_apply]

/-- A narrowed unit of the weights, entry by entry. -/
theorem wConv_at (c : Dev nD) (u : ℕ) (hu : u < 32) (i : Fin 512) (j : Fin 2048) (J : Fin 8192)
    (hJ : J.val = 4096 * (u / 2 % 2) + 2048 * (u % 2) + j.val) :
    wConv w c u (ix3 (0 : Fin 1) i j) = w c (ix2 (at8 (src c (u / 4)) i) J) := by
  unfold wConv k0_pay4
  rw [shapeCast_ab_1ab_apply]
  refine (shapeCast_1ab_ab_apply (shapeCast S1x512x2048 (wV w c u) shapeCasts_S512x2048_S1x512x2048) shapeCasts_S1x512x2048_S512x2048 i j).trans ?_
  rw [shapeCast_ab_1ab_apply]
  unfold wV
  congr 1
  funext a; apply Fin.ext
  have e := wOff_at c ⟨u, hu⟩
  match a with
  | ⟨0, _⟩ => simp [Rect.emb_apply, at8, e]
  | ⟨1, _⟩ => simp [Rect.emb_apply, e, hJ]

/-- The weights of a multiplication, entry by entry. -/
theorem wT_at (c : Dev nD) (s : ℕ) (hs : s < 8) (h : Fin 2) (i : Fin 512) (j : Fin 4096) :
    wT w c (2 * s + h.val) (ix3 (0 : Fin 1) i j) = w c (ix2 (at8 (src c s) i) (at2 h j)) := by
  have hsrc : ∀ u, u / 4 = s → src c (u / 4) = src c s := fun u e => by rw [e]
  unfold wT beside
  split
  next hj =>
    have hj' : j.val < 2048 := hj
    refine (wConv_at w c _ (by omega) i ⟨j.val, hj'⟩ (at2 h j) (by show 4096 * h.val + j.val = _ + j.val; omega)).trans ?_
    rw [hsrc _ (by omega)]
  next hj =>
    have hj' : ¬ j.val < 2048 := hj
    refine (wConv_at w c _ (by omega) i ⟨j.val - 2048, by omega⟩ (at2 h j)
      (by show 4096 * h.val + j.val = _ + (j.val - 2048); omega)).trans ?_
    rw [hsrc _ (by omega)]

/-! ## The accumulator -/

/-- What device `d`'s share of the contraction contributes to an entry. -/
def term (c d : Dev nD) (i : Fin 512) (J : Fin 8192) : EReal :=
  ∑ k : Fin 512, x d (ix2 (at8 c i) k) * w c (ix2 (at8 d k) J)

/-- A product into zero, entry by entry. -/
theorem mm_at (A : FVec Ideal S512x512 .bf16) (B : FVec Ideal S512x4096 .bf16) (i : Fin 512) (j : Fin 4096) :
    (matmul dot_S512x512_S512x4096_S512x4096_1_0_0_1_n_n none A B (constant S512x4096 .f32 0x00000000#32) : FVec Ideal S512x4096 .f32) (ix2 i j)
      = ∑ k : Fin 512, A (ix2 i k) * B (ix2 k j) := by
  rw [matmul_zero_eq_dotGeneral]
  exact StackMember.dotGeneral_plain_apply (m := 512) (k := 512) (n := 4096) none A B i j

/-- The first product of a half, entry by entry. -/
theorem pay7_at (A : FVec Ideal S512x512 .bf16) (B : FVec Ideal S1x512x4096 .bf16) (i : Fin 512) (j : Fin 4096) :
    k0_pay7 (F := Ideal) A B (ix2 i j) = ∑ k : Fin 512, A (ix2 i k) * B (ix3 (0 : Fin 1) k j) := by
  unfold k0_pay7
  rw [shapeCast_self]
  refine (mm_at _ _ i j).trans (Finset.sum_congr rfl fun k _ => ?_)
  rw [shapeCast_1ab_ab_apply]

/-- A later product added to the half, entry by entry. -/
theorem pay14_at (A : FVec Ideal S512x512 .bf16) (B : FVec Ideal S1x512x4096 .bf16) (C : FVec Ideal S512x4096 .f32) (i : Fin 512) (j : Fin 4096) :
    k0_pay14 (F := Ideal) (shapeCast S1x512x512 A shapeCasts_S512x512_S1x512x512) B C (ix2 i j)
      = C (ix2 i j) + ∑ k : Fin 512, A (ix2 i k) * B (ix3 (0 : Fin 1) k j) := by
  unfold k0_pay14
  rw [shapeCast_self]
  refine congrArg (C (ix2 i j) + ·) ((mm_at _ _ i j).trans (Finset.sum_congr rfl fun k _ => ?_))
  rw [shapeCast_1ab_ab_apply, shapeCast_1ab_ab_apply, shapeCast_ab_1ab_apply]

/-- A half after step `s`: the shares of the devices `0, …, s` back. -/
theorem acc_at (c : Dev nD) (h : Fin 2) (i : Fin 512) (j : Fin 4096) (s : ℕ) (hs : s < 8) :
    accV x w c (2 * s + h.val) (ix2 i j) = ∑ s' ∈ Finset.range (s + 1), term x w c (src c s') i (at2 h j) := by
  induction s with
  | zero =>
    have e : accV x w c (2 * 0 + h.val) = k0_pay7 (xrow x c c) (wT w c (2 * 0 + h.val)) := by
      match h with
      | ⟨0, _⟩ => rfl
      | ⟨1, _⟩ => rfl
    rw [e, pay7_at, Finset.sum_range_one]
    refine Finset.sum_congr rfl fun k _ => ?_
    rw [xrow_at, wT_at w c 0 hs, src_zero]
  | succ s ih =>
    rw [Finset.sum_range_succ, ← ih (by omega), show 2 * (s + 1) + h.val = 2 * s + h.val + 2 by omega]
    refine (pay14_at (xrow x (pl c (qOf (2 * s + h.val + 2))) c) _ _ i j).trans
      (congrArg (accV x w c (2 * s + h.val) (ix2 i j) + ·) (Finset.sum_congr rfl fun k _ => ?_))
    rw [xrow_at, pl_step c s h.val (by omega) h.isLt, show 2 * s + h.val + 2 = 2 * (s + 1) + h.val by omega, wT_at w c (s + 1) hs]

/-! ## The whole contraction -/

/-- Going `s` back twice over: the devices met are all of them, each once. -/
theorem src_src (c d : Dev nD) : src c (src c d.val).val = d := by revert c d; decide

theorem sum_src (c : Dev nD) (f : Dev nD → EReal) : ∑ s ∈ Finset.range 8, f (src c s) = ∑ d : Dev nD, f d := by
  rw [Finset.sum_range]
  exact Equiv.sum_comp (Function.Involutive.toPerm (fun d : Dev nD => src c d.val) (src_src c)) f

/-- The devices' shares make up the axis. -/
theorem sum_at8 (f : Fin 4096 → EReal) : ∑ d : Dev nD, ∑ k : Fin 512, f (at8 d k) = ∑ K : Fin 4096, f K := by
  rw [← Equiv.sum_comp (finProdFinEquiv (m := 8) (n := 512)) f, Fintype.sum_prod_type]
  refine Finset.sum_congr rfl fun d _ => Finset.sum_congr rfl fun k _ => congrArg f (Fin.ext ?_)
  show 512 * d.val + k.val = k.val + 512 * d.val
  omega

/-- A finished half is the whole product's entries. -/
theorem acc_whole (X : Vec Ideal ⟨2, ![4096, 4096]⟩ .f32) (W : Vec Ideal S4096x8192 .f32)
    (hx : ∀ d r k, x d (ix2 r k) = X (ix2 r (at8 d k))) (c : Dev nD) (hw : w c = W) (h : Fin 2) (i : Fin 512) (j : Fin 4096) :
    accV x w c (14 + h.val) (ix2 i j) = ∑ K : Fin 4096, X (ix2 (at8 c i) K) * W (ix2 K (at2 h j)) := by
  refine (acc_at x w c h i j 7 (by omega)).trans ((sum_src c fun d => term x w c d i (at2 h j)).trans ?_)
  rw [← sum_at8]
  refine Finset.sum_congr rfl fun d _ => Finset.sum_congr rfl fun k _ => ?_
  rw [hx, hw]

/-! ## The activation function -/

/-- The reference's activation function; -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- the kernel's is the same, its products arranged otherwise. -/
theorem gelu_at (Y : FVec Ideal S512x4096 .f32) (i : S512x4096.Idx) :
    k0_pay59 (F := Ideal) Y (k0_pay58 Y) (Scalar.ofBits .f32 0x3D372713#32) i = gelu (Y i) := by
  unfold k0_pay59 k0_pay58
  rw [shapeCast_self]
  show (Y i * (Ideal.ofBits .f32 0x3F000000#32 * (Ideal.ofBits .f32 0x3F800000#32
    + Ideal.tanh (Ideal.ofBits .f32 0x3F4C422A#32 * (Y i + Ideal.ofBits .f32 0x3D372713#32 * (Y i * (Y i * Y i)))))) : EReal) = _
  unfold gelu
  rw [mul_assoc (Y i) (Y i) (Y i), mul_left_comm, mul_assoc]

/-! ## The result -/

/-- The whole result: the activation function of the product's entries. -/
def whole (X : Vec Ideal ⟨2, ![4096, 4096]⟩ .f32) (W : Vec Ideal S4096x8192 .f32) : Vec Ideal ⟨2, ![4096, 8192]⟩ .f32 :=
  fun J => gelu (∑ K : Fin 4096, X (ix2 (J 0) K) * W (ix2 K (J 1)))

/-- A finished half of a device's result is its rows of the whole. -/
theorem fin_at (X : Vec Ideal ⟨2, ![4096, 4096]⟩ .f32) (W : Vec Ideal S4096x8192 .f32)
    (hx : ∀ d r k, x d (ix2 r k) = X (ix2 r (at8 d k))) (c : Dev nD) (hw : w c = W) (h : Fin 2) (i : Fin 512) (j : Fin 4096) :
    fin x w c h.val (ix2 i j) = whole X W (ix2 (at8 c i) (at2 h j)) :=
  (gelu_at _ _).trans (congrArg gelu (acc_whole x w X W hx c hw h i j))

/-- A device's result is its rows of the whole. -/
theorem out_at (X : Vec Ideal ⟨2, ![4096, 4096]⟩ .f32) (W : Vec Ideal S4096x8192 .f32)
    (hx : ∀ d, x d = Layout.block ⟨2, ![4096, 512]⟩ ⟨2, ![4096, 4096]⟩ 1 8 d X) (c : Dev nD) (hw : w c = W) :
    outV x w c = Layout.block ⟨2, ![512, 8192]⟩ ⟨2, ![4096, 8192]⟩ 0 8 c (whole X W) := by
  have hx' : ∀ d r k, x d (ix2 r k) = X (ix2 r (at8 d k)) := fun d r k => by
    rw [hx, Layout.block_apply]
    congr 1
    funext a; apply Fin.ext
    match a with
    | ⟨0, _⟩ => rfl
    | ⟨1, _⟩ => show d.val * 512 + k.val = 512 * d.val + k.val; omega
  have place : ∀ (j : S512x8192.Idx) (h : Fin 2) (l : Fin 4096), (j 1).val = 4096 * h.val + l.val →
      whole X W (ix2 (at8 c (j 0)) (at2 h l)) = Layout.block ⟨2, ![512, 8192]⟩ ⟨2, ![4096, 8192]⟩ 0 8 c (whole X W) (by decide) j := fun j h l e => by
    rw [Layout.block_apply]
    congr 1
    funext a; apply Fin.ext
    match a with
    | ⟨0, _⟩ => show 512 * c.val + (j 0).val = c.val * 512 + (j 0).val; omega
    | ⟨1, _⟩ => exact e.symm
  funext j
  unfold outV
  split
  next hj => exact (fin_at x w X W hx' c hw 0 (j 0) ⟨(j 1).val, hj⟩).trans (place j 0 ⟨(j 1).val, hj⟩ (by show _ = 4096 * 0 + (j 1).val; omega))
  next hj =>
    have hl : (j 1).val < 8192 := (j 1).isLt
    exact (fin_at x w X W hx' c hw 1 (j 0) ⟨(j 1).val - 4096, by omega⟩).trans
      (place j 1 ⟨(j 1).val - 4096, by omega⟩ (by show _ = 4096 * 1 + ((j 1).val - 4096); omega))

end Cert.KernelIdeal.Gemm

namespace Cert.Proof

open Idealize.ShloMosaic Idealize.SL.Sem
open Cert.KernelIdeal.Gemm
open Idealize.ShloMosaic.ValueIdx

/-- What the reference's run leaves is the whole result. -/
theorem ref_whole (X : FVec Ideal Cert.ReferenceIdeal.S4096x4096 .f32) (W : FVec Ideal Cert.ReferenceIdeal.S4096x8192 .f32)
    (J : Cert.ReferenceIdeal.S4096x8192.Idx) :
    Host.dotGeneral (haveI := Cert.ReferenceIdeal.Gen.facts; Cert.ReferenceIdeal.dot_S4096x4096_S4096x8192_S4096x8192_1_0_0_1_n_n) none X W J
      = ∑ K : Fin 4096, X (ix2 (J 0) K) * W (ix2 K (J 1)) := by
  have e : J = ix2 (J 0) (J 1) := by
    funext a
    match a with
    | ⟨0, _⟩ => rfl
    | ⟨1, _⟩ => rfl
  conv_lhs => rw [e]
  exact StackMember.dotGeneral_plain_apply (m := 4096) (k := 4096) (n := 8192) none X W (J 0) (J 1)

/-- The activations a device finds are its argument. -/
theorem act_eq (m : (l : Loc Cert.KernelIdeal.nD Cert.KernelIdeal.τ Cert.KernelIdeal.sig) → Buf (Elt Ideal) l)
    (g : Dev Cert.KernelIdeal.nD → PrngReg) (c : Dev Cert.KernelIdeal.nD) :
    act m g c = m ((c.tc : Thread Cert.KernelIdeal.nD Cert.KernelIdeal.τ).loc Cert.KernelIdeal.main_arg0) := by
  funext i
  refine congrArg (m ((c.tc : Thread Cert.KernelIdeal.nD Cert.KernelIdeal.τ).loc Cert.KernelIdeal.main_arg0)) (?_ : _ = i)
  funext a; apply Fin.ext
  match a with
  | ⟨0, _⟩ => show 0 * 4096 + 1 * (i 0).val = (i 0).val; omega
  | ⟨1, _⟩ => show 0 * 512 + 1 * (i 1).val = (i 1).val; omega

/-- From arguments that agree, the kernel leaves on each device its rows of the reference's result. -/
theorem algebraic_kernel : algebraic_KernelIdeal_ReferenceIdeal (hKernelIdeal := Cert.KernelIdeal.Gen.facts) (hReferenceIdeal := Cert.ReferenceIdeal.Gen.facts) := by
  intro m g m' g' _ hargs
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩) (run_main (F := Ideal) m g)
    exact out_at (act m g) (wgt m g) _ _ (fun d => (act_eq m g d).trans (hargs d).1) c (hargs c).2
  · refine (θ_run Cert.ReferenceIdeal.defs _ _).mono (fun r h => ⟨(h 0).1.trans ?_, (h 0).2⟩) (Cert.ReferenceIdeal.Value.run (F := Ideal) m' g')
    funext J
    refine Eq.trans ?_ (congrArg gelu (ref_whole _ _ J))
    rfl

end Cert.Proof

end
-- ==== Proof.lean ====
module

public import proofs.«01_k».proof.Proof.Value

@[expose] public section

noncomputable section

namespace Cert.Proof

theorem claim : Cert.Claim :=
  ⟨Cert.Kernel.Gen.facts, Cert.KernelIdeal.Gen.facts, Cert.ReferenceIdeal.Gen.facts, frame_bits, frame_ideal, frame_ref, trivial, algebraic_kernel⟩

end Cert.Proof

end
